-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_two_rounds [hKernelIdeal : Cert.KernelIdeal.Facts] [hReferenceIdeal : Cert.ReferenceIdeal.Facts] [hOn_two_rounds : Cert.On_two_rounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Layout.block ⟨2, ![4096, 512]⟩ ⟨2, ![4096, 2048]⟩ 1 4 c ((Cert.On_two_rounds.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 512]⟩ : Shape).Idx → _) i = 1#1 → r.2.mem ((c.tc : Thread Cert.KernelIdeal.nD Cert.KernelIdeal.τ).loc Cert.KernelIdeal.main_v1) i = (Layout.block ⟨2, ![4096, 512]⟩ ⟨2, ![4096, 2048]⟩ 1 4 c v0 : (⟨2, ![4096, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_two_rounds.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v2) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_two_rounds : Cert.On_two_rounds.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_two_rounds (hKernelIdeal := hKernelIdeal) (hReferenceIdeal := hReferenceIdeal) (hOn_two_rounds := hOn_two_rounds)
-- ==== On_two_rounds.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn_where {F : FTy → Type} [FloatOps F] (arg0 : IVec S4096x2048 1) (arg1 : IVec S4096x2048 32) (arg2 : IVec S4096x2048 32) : IVec S4096x2048 32 :=
  let v0 : IVec S4096x2048 32 := select arg0 arg1 arg2
  v0

def fn_floor_divide {F : FTy → Type} [FloatOps F] (arg0 : IVec S4096x2048 32) (arg1 : IVec S_ 32) : IVec S4096x2048 32 :=
  let v0 : IVec S_ 32 := id arg1
  let v1 : IVec S4096x2048 32 := broadcastInDim S4096x2048 ![] bcast_S_S4096x2048 v0
  let v2 : IVec S4096x2048 32 := Host.divsi arg0 v1
  let v3 : IVec S4096x2048 32 := signi arg0
  let v4 : IVec S_ 32 := signi v0
  let v5 : IVec S4096x2048 32 := broadcastInDim S4096x2048 ![] bcast_S_S4096x2048 v4
  let v6 : IVec S4096x2048 1 := cmpi .ne v3 v5
  let v7 : IVec S4096x2048 32 := broadcastInDim S4096x2048 ![] bcast_S_S4096x2048 v0
  let v8 : IVec S4096x2048 32 := Host.remsi arg0 v7
  let c : IVec S_ 32 := constantI S_ 32 0#32
  let v9 : IVec S4096x2048 32 := broadcastInDim S4096x2048 ![] bcast_S_S4096x2048 c
  let v10 : IVec S4096x2048 1 := cmpi .ne v8 v9
  let v11 : IVec S4096x2048 1 := andi v6 v10
  let c_0 : IVec S_ 32 := constantI S_ 32 1#32
  let v12 : IVec S4096x2048 32 := broadcastInDim S4096x2048 ![] bcast_S_S4096x2048 c_0
  let v13 : IVec S4096x2048 32 := subi v2 v12
  let v14 : IVec S4096x2048 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4096x2048 32) (arg1 : IVec S_ 32) : IVec S4096x2048 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S4096x2048 32 := broadcastInDim S4096x2048 ![] bcast_S_S4096x2048 v2
  let v4 : IVec S4096x2048 32 := Host.remsi arg0 v3
  let c_1 : IVec S_ 32 := constantI S_ 32 0#32
  let v5 : IVec S4096x2048 32 := broadcastInDim S4096x2048 ![] bcast_S_S4096x2048 c_1
  let v6 : IVec S4096x2048 1 := cmpi .ne v4 v5
  let c_2 : IVec S_ 32 := constantI S_ 32 0#32
  let v7 : IVec S4096x2048 32 := broadcastInDim S4096x2048 ![] bcast_S_S4096x2048 c_2
  let v8 : IVec S4096x2048 1 := cmpi .slt v4 v7
  let c_3 : IVec S_ 32 := constantI S_ 32 0#32
  let v9 : IVec S_ 1 := cmpi .slt v2 c_3
  let v10 : IVec S4096x2048 1 := broadcastInDim S4096x2048 ![] bcast_S_S4096x2048 v9
  let v11 : IVec S4096x2048 1 := cmpi .ne v8 v10
  let v12 : IVec S4096x2048 1 := andi v11 v6
  let v13 : IVec S4096x2048 32 := broadcastInDim S4096x2048 ![] bcast_S_S4096x2048 v2
  let v14 : IVec S4096x2048 32 := addi v4 v13
  let v15 : IVec S4096x2048 32 := select v12 v14 v4
  v15

def fn_where_1 {F : FTy → Type} [FloatOps F] (arg0 : IVec S4096x2048 1) (arg1 : IVec S4096x2048 1) (arg2 : IVec S4096x2048 1) : IVec S4096x2048 1 :=
  let v0 : IVec S4096x2048 1 := select arg0 arg1 arg2
  v0

def fn {F : FTy → Type} [FloatOps F] (main_arg0 : FVec F S4096x4096 .f32) (main_arg1 : FVec F S4096x2048 .f32) : IVec S4096x2048 1 :=
  let main_v0 : IVec S4096x2048 32 := iotaInDim S4096x2048 32 0
  let main_v1 : IVec S4096x2048 32 := iotaInDim S4096x2048 32 1
  let main_c : IVec S_ 32 := constantI S_ 32 1024#32
  let main_v2 : IVec S4096x2048 32 := fn_floor_divide (F := F) main_v0 main_c
  let main_c_0 : IVec S_ 32 := constantI S_ 32 4#32
  let main_v3 : IVec S4096x2048 32 := broadcastInDim S4096x2048 ![] bcast_S_S4096x2048 main_c_0
  let main_v4 : IVec S4096x2048 32 := addi main_v2 main_v3
  let main_c_1 : IVec S_ 32 := constantI S_ 32 512#32
  let main_v5 : IVec S4096x2048 32 := fn_floor_divide (F := F) main_v1 main_c_1
  let main_v6 : IVec S4096x2048 32 := subi main_v4 main_v5
  let main_c_2 : IVec S_ 32 := constantI S_ 32 4#32
  let main_v7 : IVec S4096x2048 32 := fn_remainder (F := F) main_v6 main_c_2
  let main_c_3 : IVec S_ 32 := constantI S_ 32 512#32
  let main_v8 : IVec S4096x2048 32 := fn_remainder (F := F) main_v1 main_c_3
  let main_c_4 : IVec S_ 32 := constantI S_ 32 256#32
  let main_v9 : IVec S4096x2048 32 := broadcastInDim S4096x2048 ![] bcast_S_S4096x2048 main_c_4
  let main_v10 : IVec S4096x2048 1 := cmpi .slt main_v8 main_v9
  let main_c_5 : IVec S_ 32 := constantI S_ 32 3#32
  let main_v11 : IVec S4096x2048 32 := broadcastInDim S4096x2048 ![] bcast_S_S4096x2048 main_c_5
  let main_v12 : IVec S4096x2048 1 := cmpi .ne main_v7 main_v11
  let main_c_6 : IVec S_ 32 := constantI S_ 32 1#32
  let main_v13 : IVec S4096x2048 32 := broadcastInDim S4096x2048 ![] bcast_S_S4096x2048 main_c_6
  let main_v14 : IVec S4096x2048 1 := cmpi .ne main_v7 main_v13
  let main_v15 : IVec S4096x2048 1 := fn_where_1 (F := F) main_v10 main_v12 main_v14
  main_v15
-- ==== Kernel.lean ====
abbrev S1024x4096 : Shape := ⟨2, ![1024, 4096]⟩
abbrev S4096x512 : Shape := ⟨2, ![4096, 512]⟩
abbrev S4x2x4096x128 : Shape := ⟨4, ![4, 2, 4096, 128]⟩
abbrev S12x1024x128 : Shape := ⟨3, ![12, 1024, 128]⟩
abbrev S12 : Shape := ⟨1, ![12]⟩
abbrev S_ : Shape := ⟨0, ![]⟩
abbrev S1 : Shape := ⟨1, ![1]⟩
abbrev S1x1x4096x128 : Shape := ⟨4, ![1, 1, 4096, 128]⟩
abbrev S4096x128 : Shape := ⟨2, ![4096, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S4x2x4096x128, .f32⟩
  | .local _ .vmem, ⟨4, _⟩ => ⟨S12x1024x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_21 : BitVec 32 := 1#32
  let v38 : BitVec 32 := Scalar.muli v25 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24 : BitVec 32 := 1#32
  let v40 : BitVec 32 := Scalar.muli v13 c1_i32_24
  let v41 : BitVec 32 := Scalar.addi c0_i32_25 v40
  v41.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_27 : BitVec 32 := 1#32
  let v42 : BitVec 32 := Scalar.muli v36 c1_i32_27
  let v43 : BitVec 32 := Scalar.addi c0_i32_28 v42
  v43.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v44 : BitVec 32 := Scalar.muli v13 c1_i32_33
  let v45 : BitVec 32 := Scalar.addi c0_i32_34 v44
  v45.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v53 : BitVec 32 := Scalar.muli v13 c1_i32_43
  let v54 : BitVec 32 := Scalar.addi c0_i32_44 v53
  v54.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_51 : BitVec 32 := 1#32
  let v62 : BitVec 32 := Scalar.muli v25 c1_i32_51
  let v63 : BitVec 32 := Scalar.addi c0_i32_52 v62
  v63.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_59 : BitVec 32 := 1#32
  let v71 : BitVec 32 := Scalar.muli v25 c1_i32_59
  let v72 : BitVec 32 := Scalar.addi c0_i32_60 v71
  v72.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v87 : BitVec 32 := Scalar.muli v2 c1024_i32
  let v88 : Index := Scalar.indexCast v87
  let c0_68 : Index := 0#32
  ![v88.toNat, 0]
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_94 : BitVec 32 := 1#32
  let v102 : BitVec 32 := Scalar.muli v13 c1_i32_94
  let v103 : BitVec 32 := Scalar.addi c0_i32_95 v102
  v103.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_119 : BitVec 32 := 1024#32
  let v134 : BitVec 32 := Scalar.muli v2 c1024_i32_119
  let c0_i32_125 : BitVec 32 := 0#32
  ![v134.toNat, 0]
def k0_dev9 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_100 : BitVec 32 := 4#32
  let v112 : BitVec 32 := Scalar.addi v2 c4_i32_100
  let c1_i32_101 : BitVec 32 := 1#32
  let v113 : BitVec 32 := Scalar.subi v112 c1_i32_101
  let c4_i32_102 : BitVec 32 := 4#32
  let c0_i32_103 : BitVec 32 := 0#32
  let v114 : BitVec 1 := Scalar.cmpi .eq c4_i32_102 c0_i32_103
  let c1_i32_104 : BitVec 32 := 1#32
  let v115 : BitVec 32 := Scalar.select v114 c1_i32_104 c4_i32_102
  let v116 : BitVec 32 := Scalar.remsi v113 v115
  let c0_i32_106 : BitVec 32 := 0#32
  let v118 : BitVec 1 := Scalar.cmpi .slt v116 c0_i32_106
  let c0_i32_107 : BitVec 32 := 0#32
  let v119 : BitVec 1 := Scalar.cmpi .slt v115 c0_i32_107
  let v120 : BitVec 1 := Scalar.xori v118 v119
  let c0_i32_105 : BitVec 32 := 0#32
  let v117 : BitVec 1 := Scalar.cmpi .ne v116 c0_i32_105
  let v121 : BitVec 1 := Scalar.andi v120 v117
  let v122 : BitVec 32 := Scalar.addi v116 v115
  let v123 : BitVec 32 := Scalar.select v121 v122 v116
  let c1_i32_123 : BitVec 32 := 1#32
  let v135 : BitVec 32 := Scalar.muli v123 c1_i32_123
  let v136 : BitVec 32 := Scalar.addi c0_i32_124 v135
  v136.toNat
def k0_dev10 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_152 : BitVec 32 := 1#32
  let v156 : BitVec 32 := Scalar.muli v25 c1_i32_152
  let v157 : BitVec 32 := Scalar.addi c0_i32_153 v156
  v157.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_174 : BitVec 32 := 1024#32
  let v188 : BitVec 32 := Scalar.muli v2 c1024_i32_174
  let c256_i32_180 : BitVec 32 := 256#32
  ![v188.toNat, 256]
def k0_dev11 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_158 : BitVec 32 := 4#32
  let v166 : BitVec 32 := Scalar.addi v2 c4_i32_158
  let c_m1_i32 : BitVec 32 := 4294967295#32
  let v167 : BitVec 32 := Scalar.subi v166 c_m1_i32
  let c4_i32_159 : BitVec 32 := 4#32
  let c0_i32_160 : BitVec 32 := 0#32
  let v168 : BitVec 1 := Scalar.cmpi .eq c4_i32_159 c0_i32_160
  let c1_i32_161 : BitVec 32 := 1#32
  let v169 : BitVec 32 := Scalar.select v168 c1_i32_161 c4_i32_159
  let v170 : BitVec 32 := Scalar.remsi v167 v169
  let c0_i32_163 : BitVec 32 := 0#32
  let v172 : BitVec 1 := Scalar.cmpi .slt v170 c0_i32_163
  let c0_i32_164 : BitVec 32 := 0#32
  let v173 : BitVec 1 := Scalar.cmpi .slt v169 c0_i32_164
  let v174 : BitVec 1 := Scalar.xori v172 v173
  let c0_i32_162 : BitVec 32 := 0#32
  let v171 : BitVec 1 := Scalar.cmpi .ne v170 c0_i32_162
  let v175 : BitVec 1 := Scalar.andi v174 v171
  let v176 : BitVec 32 := Scalar.addi v170 v169
  let v177 : BitVec 32 := Scalar.select v175 v176 v170
  let c1_i32_178 : BitVec 32 := 1#32
  let v189 : BitVec 32 := Scalar.muli v177 c1_i32_178
  let v190 : BitVec 32 := Scalar.addi c0_i32_179 v189
  v190.toNat
def k0_dev12 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_208 : BitVec 32 := 1#32
  let v210 : BitVec 32 := Scalar.muli v13 c1_i32_208
  let v211 : BitVec 32 := Scalar.addi c0_i32_209 v210
  v211.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_231 : BitVec 32 := 1024#32
  let v242 : BitVec 32 := Scalar.muli v2 c1024_i32_231
  let c128_i32_237 : BitVec 32 := 128#32
  ![v242.toNat, 128]
def k0_dev13 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_214 : BitVec 32 := 4#32
  let v220 : BitVec 32 := Scalar.addi v2 c4_i32_214
  let c1_i32_215 : BitVec 32 := 1#32
  let v221 : BitVec 32 := Scalar.subi v220 c1_i32_215
  let c4_i32_216 : BitVec 32 := 4#32
  let c0_i32_217 : BitVec 32 := 0#32
  let v222 : BitVec 1 := Scalar.cmpi .eq c4_i32_216 c0_i32_217
  let c1_i32_218 : BitVec 32 := 1#32
  let v223 : BitVec 32 := Scalar.select v222 c1_i32_218 c4_i32_216
  let v224 : BitVec 32 := Scalar.remsi v221 v223
  let c0_i32_220 : BitVec 32 := 0#32
  let v226 : BitVec 1 := Scalar.cmpi .slt v224 c0_i32_220
  let c0_i32_221 : BitVec 32 := 0#32
  let v227 : BitVec 1 := Scalar.cmpi .slt v223 c0_i32_221
  let v228 : BitVec 1 := Scalar.xori v226 v227
  let c0_i32_219 : BitVec 32 := 0#32
  let v225 : BitVec 1 := Scalar.cmpi .ne v224 c0_i32_219
  let v229 : BitVec 1 := Scalar.andi v228 v225
  let v230 : BitVec 32 := Scalar.addi v224 v223
  let v231 : BitVec 32 := Scalar.select v229 v230 v224
  let c1_i32_235 : BitVec 32 := 1#32
  let v243 : BitVec 32 := Scalar.muli v231 c1_i32_235
  let v244 : BitVec 32 := Scalar.addi c0_i32_236 v243
  v244.toNat
def k0_dev14 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_264 : BitVec 32 := 1#32
  let v264 : BitVec 32 := Scalar.muli v25 c1_i32_264
  let v265 : BitVec 32 := Scalar.addi c0_i32_265 v264
  v265.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_288 : BitVec 32 := 1024#32
  let v296 : BitVec 32 := Scalar.muli v2 c1024_i32_288
  let c384_i32_294 : BitVec 32 := 384#32
  ![v296.toNat, 384]
def k0_dev15 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_270 : BitVec 32 := 4#32
  let v274 : BitVec 32 := Scalar.addi v2 c4_i32_270
  let c_m1_i32_271 : BitVec 32 := 4294967295#32
  let v275 : BitVec 32 := Scalar.subi v274 c_m1_i32_271
  let c4_i32_272 : BitVec 32 := 4#32
  let c0_i32_273 : BitVec 32 := 0#32
  let v276 : BitVec 1 := Scalar.cmpi .eq c4_i32_272 c0_i32_273
  let c1_i32_274 : BitVec 32 := 1#32
  let v277 : BitVec 32 := Scalar.select v276 c1_i32_274 c4_i32_272
  let v278 : BitVec 32 := Scalar.remsi v275 v277
  let c0_i32_276 : BitVec 32 := 0#32
  let v280 : BitVec 1 := Scalar.cmpi .slt v278 c0_i32_276
  let c0_i32_277 : BitVec 32 := 0#32
  let v281 : BitVec 1 := Scalar.cmpi .slt v277 c0_i32_277
  let v282 : BitVec 1 := Scalar.xori v280 v281
  let c0_i32_275 : BitVec 32 := 0#32
  let v279 : BitVec 1 := Scalar.cmpi .ne v278 c0_i32_275
  let v283 : BitVec 1 := Scalar.andi v282 v279
  let v284 : BitVec 32 := Scalar.addi v278 v277
  let v285 : BitVec 32 := Scalar.select v283 v284 v278
  let c1_i32_292 : BitVec 32 := 1#32
  let v297 : BitVec 32 := Scalar.muli v285 c1_i32_292
  let v298 : BitVec 32 := Scalar.addi c0_i32_293 v297
  v298.toNat
def k0_dev16 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_320 : BitVec 32 := 4#32
  let v320 : BitVec 32 := Scalar.addi v2 c4_i32_320
  let c2_i32_321 : BitVec 32 := 2#32
  let v321 : BitVec 32 := Scalar.subi v320 c2_i32_321
  let c4_i32_322 : BitVec 32 := 4#32
  let c0_i32_323 : BitVec 32 := 0#32
  let v322 : BitVec 1 := Scalar.cmpi .eq c4_i32_322 c0_i32_323
  let c1_i32_324 : BitVec 32 := 1#32
  let v323 : BitVec 32 := Scalar.select v322 c1_i32_324 c4_i32_322
  let v324 : BitVec 32 := Scalar.remsi v321 v323
  let c0_i32_326 : BitVec 32 := 0#32
  let v326 : BitVec 1 := Scalar.cmpi .slt v324 c0_i32_326
  let c0_i32_327 : BitVec 32 := 0#32
  let v327 : BitVec 1 := Scalar.cmpi .slt v323 c0_i32_327
  let v328 : BitVec 1 := Scalar.xori v326 v327
  let c0_i32_325 : BitVec 32 := 0#32
  let v325 : BitVec 1 := Scalar.cmpi .ne v324 c0_i32_325
  let v329 : BitVec 1 := Scalar.andi v328 v325
  let v330 : BitVec 32 := Scalar.addi v324 v323
  let v331 : BitVec 32 := Scalar.select v329 v330 v324
  let c1_i32_343 : BitVec 32 := 1#32
  let v343 : BitVec 32 := Scalar.muli v331 c1_i32_343
  let v344 : BitVec 32 := Scalar.addi c0_i32_344 v343
  v344.toNat
def k0_dev17 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_371 : BitVec 32 := 4#32
  let v366 : BitVec 32 := Scalar.addi v2 c4_i32_371
  let c_m2_i32 : BitVec 32 := 4294967294#32
  let v367 : BitVec 32 := Scalar.subi v366 c_m2_i32
  let c4_i32_372 : BitVec 32 := 4#32
  let c0_i32_373 : BitVec 32 := 0#32
  let v368 : BitVec 1 := Scalar.cmpi .eq c4_i32_372 c0_i32_373
  let c1_i32_374 : BitVec 32 := 1#32
  let v369 : BitVec 32 := Scalar.select v368 c1_i32_374 c4_i32_372
  let v370 : BitVec 32 := Scalar.remsi v367 v369
  let c0_i32_376 : BitVec 32 := 0#32
  let v372 : BitVec 1 := Scalar.cmpi .slt v370 c0_i32_376
  let c0_i32_377 : BitVec 32 := 0#32
  let v373 : BitVec 1 := Scalar.cmpi .slt v369 c0_i32_377
  let v374 : BitVec 1 := Scalar.xori v372 v373
  let c0_i32_375 : BitVec 32 := 0#32
  let v371 : BitVec 1 := Scalar.cmpi .ne v370 c0_i32_375
  let v375 : BitVec 1 := Scalar.andi v374 v371
  let v376 : BitVec 32 := Scalar.addi v370 v369
  let v377 : BitVec 32 := Scalar.select v375 v376 v370
  let c1_i32_392 : BitVec 32 := 1#32
  let v389 : BitVec 32 := Scalar.muli v377 c1_i32_392
  let v390 : BitVec 32 := Scalar.addi c0_i32_393 v389
  v390.toNat
def k0_dev18 (d0 : Dev nD) : Nat :=
  let c0_i32_443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_420 : BitVec 32 := 4#32
  let v412 : BitVec 32 := Scalar.addi v2 c4_i32_420
  let c2_i32_421 : BitVec 32 := 2#32
  let v413 : BitVec 32 := Scalar.subi v412 c2_i32_421
  let c4_i32_422 : BitVec 32 := 4#32
  let c0_i32_423 : BitVec 32 := 0#32
  let v414 : BitVec 1 := Scalar.cmpi .eq c4_i32_422 c0_i32_423
  let c1_i32_424 : BitVec 32 := 1#32
  let v415 : BitVec 32 := Scalar.select v414 c1_i32_424 c4_i32_422
  let v416 : BitVec 32 := Scalar.remsi v413 v415
  let c0_i32_426 : BitVec 32 := 0#32
  let v418 : BitVec 1 := Scalar.cmpi .slt v416 c0_i32_426
  let c0_i32_427 : BitVec 32 := 0#32
  let v419 : BitVec 1 := Scalar.cmpi .slt v415 c0_i32_427
  let v420 : BitVec 1 := Scalar.xori v418 v419
  let c0_i32_425 : BitVec 32 := 0#32
  let v417 : BitVec 1 := Scalar.cmpi .ne v416 c0_i32_425
  let v421 : BitVec 1 := Scalar.andi v420 v417
  let v422 : BitVec 32 := Scalar.addi v416 v415
  let v423 : BitVec 32 := Scalar.select v421 v422 v416
  let c1_i32_442 : BitVec 32 := 1#32
  let v435 : BitVec 32 := Scalar.muli v423 c1_i32_442
  let v436 : BitVec 32 := Scalar.addi c0_i32_443 v435
  v436.toNat
def k0_dev19 (d0 : Dev nD) : Nat :=
  let c0_i32_493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_470 : BitVec 32 := 4#32
  let v458 : BitVec 32 := Scalar.addi v2 c4_i32_470
  let c_m2_i32_471 : BitVec 32 := 4294967294#32
  let v459 : BitVec 32 := Scalar.subi v458 c_m2_i32_471
  let c4_i32_472 : BitVec 32 := 4#32
  let c0_i32_473 : BitVec 32 := 0#32
  let v460 : BitVec 1 := Scalar.cmpi .eq c4_i32_472 c0_i32_473
  let c1_i32_474 : BitVec 32 := 1#32
  let v461 : BitVec 32 := Scalar.select v460 c1_i32_474 c4_i32_472
  let v462 : BitVec 32 := Scalar.remsi v459 v461
  let c0_i32_476 : BitVec 32 := 0#32
  let v464 : BitVec 1 := Scalar.cmpi .slt v462 c0_i32_476
  let c0_i32_477 : BitVec 32 := 0#32
  let v465 : BitVec 1 := Scalar.cmpi .slt v461 c0_i32_477
  let v466 : BitVec 1 := Scalar.xori v464 v465
  let c0_i32_475 : BitVec 32 := 0#32
  let v463 : BitVec 1 := Scalar.cmpi .ne v462 c0_i32_475
  let v467 : BitVec 1 := Scalar.andi v466 v463
  let v468 : BitVec 32 := Scalar.addi v462 v461
  let v469 : BitVec 32 := Scalar.select v467 v468 v462
  let c1_i32_492 : BitVec 32 := 1#32
  let v481 : BitVec 32 := Scalar.muli v469 c1_i32_492
  let v482 : BitVec 32 := Scalar.addi c0_i32_493 v481
  v482.toNat
def k0_off6 (d0 : Dev nD) (c1_i32_498 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_497 : BitVec 32 := 4#32
  let v490 : BitVec 32 := Scalar.addi v2 c4_i32_497
  let v491 : BitVec 32 := Scalar.addi v490 c1_i32_498
  let c4_i32_499 : BitVec 32 := 4#32
  let c0_i32_500 : BitVec 32 := 0#32
  let v492 : BitVec 1 := Scalar.cmpi .eq c4_i32_499 c0_i32_500
  let c1_i32_501 : BitVec 32 := 1#32
  let v493 : BitVec 32 := Scalar.select v492 c1_i32_501 c4_i32_499
  let v494 : BitVec 32 := Scalar.remsi v491 v493
  let c0_i32_503 : BitVec 32 := 0#32
  let v496 : BitVec 1 := Scalar.cmpi .slt v494 c0_i32_503
  let c0_i32_504 : BitVec 32 := 0#32
  let v497 : BitVec 1 := Scalar.cmpi .slt v493 c0_i32_504
  let v498 : BitVec 1 := Scalar.xori v496 v497
  let c0_i32_502 : BitVec 32 := 0#32
  let v495 : BitVec 1 := Scalar.cmpi .ne v494 c0_i32_502
  let v499 : BitVec 1 := Scalar.andi v498 v495
  let v500 : BitVec 32 := Scalar.addi v494 v493
  let v501 : BitVec 32 := Scalar.select v499 v500 v494
  let c1024_i32_505 : BitVec 32 := 1024#32
  let v502 : BitVec 32 := Scalar.muli v501 c1024_i32_505
  let c0_i32_511 : BitVec 32 := 0#32
  ![v502.toNat, 0]
def k0_off7 (d0 : Dev nD) (c1_i32_532 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_531 : BitVec 32 := 4#32
  let v530 : BitVec 32 := Scalar.addi v2 c4_i32_531
  let v531 : BitVec 32 := Scalar.addi v530 c1_i32_532
  let c4_i32_533 : BitVec 32 := 4#32
  let c0_i32_534 : BitVec 32 := 0#32
  let v532 : BitVec 1 := Scalar.cmpi .eq c4_i32_533 c0_i32_534
  let c1_i32_535 : BitVec 32 := 1#32
  let v533 : BitVec 32 := Scalar.select v532 c1_i32_535 c4_i32_533
  let v534 : BitVec 32 := Scalar.remsi v531 v533
  let c0_i32_537 : BitVec 32 := 0#32
  let v536 : BitVec 1 := Scalar.cmpi .slt v534 c0_i32_537
  let c0_i32_538 : BitVec 32 := 0#32
  let v537 : BitVec 1 := Scalar.cmpi .slt v533 c0_i32_538
  let v538 : BitVec 1 := Scalar.xori v536 v537
  let c0_i32_536 : BitVec 32 := 0#32
  let v535 : BitVec 1 := Scalar.cmpi .ne v534 c0_i32_536
  let v539 : BitVec 1 := Scalar.andi v538 v535
  let v540 : BitVec 32 := Scalar.addi v534 v533
  let v541 : BitVec 32 := Scalar.select v539 v540 v534
  let c1024_i32_539 : BitVec 32 := 1024#32
  let v542 : BitVec 32 := Scalar.muli v541 c1024_i32_539
  let c128_i32_545 : BitVec 32 := 128#32
  ![v542.toNat, 128]
def k0_off8 (d0 : Dev nD) (c_m1_i32_566 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_565 : BitVec 32 := 4#32
  let v570 : BitVec 32 := Scalar.addi v2 c4_i32_565
  let v571 : BitVec 32 := Scalar.addi v570 c_m1_i32_566
  let c4_i32_567 : BitVec 32 := 4#32
  let c0_i32_568 : BitVec 32 := 0#32
  let v572 : BitVec 1 := Scalar.cmpi .eq c4_i32_567 c0_i32_568
  let c1_i32_569 : BitVec 32 := 1#32
  let v573 : BitVec 32 := Scalar.select v572 c1_i32_569 c4_i32_567
  let v574 : BitVec 32 := Scalar.remsi v571 v573
  let c0_i32_571 : BitVec 32 := 0#32
  let v576 : BitVec 1 := Scalar.cmpi .slt v574 c0_i32_571
  let c0_i32_572 : BitVec 32 := 0#32
  let v577 : BitVec 1 := Scalar.cmpi .slt v573 c0_i32_572
  let v578 : BitVec 1 := Scalar.xori v576 v577
  let c0_i32_570 : BitVec 32 := 0#32
  let v575 : BitVec 1 := Scalar.cmpi .ne v574 c0_i32_570
  let v579 : BitVec 1 := Scalar.andi v578 v575
  let v580 : BitVec 32 := Scalar.addi v574 v573
  let v581 : BitVec 32 := Scalar.select v579 v580 v574
  let c1024_i32_573 : BitVec 32 := 1024#32
  let v582 : BitVec 32 := Scalar.muli v581 c1024_i32_573
  let c256_i32_579 : BitVec 32 := 256#32
  ![v582.toNat, 256]
def k0_off9 (d0 : Dev nD) (c_m1_i32_600 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_599 : BitVec 32 := 4#32
  let v610 : BitVec 32 := Scalar.addi v2 c4_i32_599
  let v611 : BitVec 32 := Scalar.addi v610 c_m1_i32_600
  let c4_i32_601 : BitVec 32 := 4#32
  let c0_i32_602 : BitVec 32 := 0#32
  let v612 : BitVec 1 := Scalar.cmpi .eq c4_i32_601 c0_i32_602
  let c1_i32_603 : BitVec 32 := 1#32
  let v613 : BitVec 32 := Scalar.select v612 c1_i32_603 c4_i32_601
  let v614 : BitVec 32 := Scalar.remsi v611 v613
  let c0_i32_605 : BitVec 32 := 0#32
  let v616 : BitVec 1 := Scalar.cmpi .slt v614 c0_i32_605
  let c0_i32_606 : BitVec 32 := 0#32
  let v617 : BitVec 1 := Scalar.cmpi .slt v613 c0_i32_606
  let v618 : BitVec 1 := Scalar.xori v616 v617
  let c0_i32_604 : BitVec 32 := 0#32
  let v615 : BitVec 1 := Scalar.cmpi .ne v614 c0_i32_604
  let v619 : BitVec 1 := Scalar.andi v618 v615
  let v620 : BitVec 32 := Scalar.addi v614 v613
  let v621 : BitVec 32 := Scalar.select v619 v620 v614
  let c1024_i32_607 : BitVec 32 := 1024#32
  let v622 : BitVec 32 := Scalar.muli v621 c1024_i32_607
  let c384_i32_613 : BitVec 32 := 384#32
  ![v622.toNat, 384]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Views.lean ====
/-
# The ring of four devices: neighbours, buffers and semaphores

Streams `0` and `1` move right (to the next device), streams `2` and `3` move left. Stream `st` carries
columns `128 st .. 128 st + 127` of a device's block of the second operand. Round `h` is `0` or `1`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

/-! ## Devices -/

set_option backward.proofsInPublic true in
/-- The device `k` places to the right of `c`. -/
def sh (k : ℕ) (c : Dev nD) : Dev nD := ⟨(c.val + k) % 4, Nat.mod_lt _ (by decide)⟩

theorem sh_0 (c : Dev nD) : sh 0 c = c := by revert c; decide
theorem sh_sh (j k : ℕ) (c : Dev nD) : sh j (sh k c) = sh ((j + k) % 4) c := by
  apply Fin.ext; simp only [sh]; omega

/-- The device stream `st` of `c` sends to. -/
def ringTo (st : Fin 4) (c : Dev nD) : Dev nD := if st.val < 2 then sh 1 c else sh 3 c
/-- The device whose block of the second operand reaches `c` on stream `st` in round `h`; also the device that
    `c` sends that round's product to. -/
def origin (st : Fin 4) (h : Fin 2) (c : Dev nD) : Dev nD := if st.val < 2 then sh (3 - h.val) c else sh (1 + h.val) c
/-- The device whose rows of the result arrive at `c` for stream `st` and round `h`. -/
def owner (st : Fin 4) (h : Fin 2) (c : Dev nD) : Dev nD := if st.val < 2 then sh (1 + h.val) c else sh (3 - h.val) c

theorem owner_origin (st : Fin 4) (h : Fin 2) (c : Dev nD) : owner st h (origin st h c) = c := by revert st h c; decide
theorem origin_owner (st : Fin 4) (h : Fin 2) (c : Dev nD) : origin st h (owner st h c) = c := by revert st h c; decide
theorem origin_ringTo_0 (st : Fin 4) (c : Dev nD) : origin st 0 (ringTo st c) = c := by revert st c; decide
theorem origin_ringTo_1 (st : Fin 4) (c : Dev nD) : origin st 1 (ringTo st c) = origin st 0 c := by revert st c; decide

theorem dev1_eq (c : Dev nD) : (⟨k0_dev1 c, k0_dev1_lt c⟩ : Dev nD) = sh 3 c := by revert c; decide
theorem dev2_eq (c : Dev nD) : (⟨k0_dev2 c, k0_dev2_lt c⟩ : Dev nD) = sh 1 c := by revert c; decide
theorem dev3_eq (c : Dev nD) : (⟨k0_dev3 c, k0_dev3_lt c⟩ : Dev nD) = sh 2 c := by revert c; decide
theorem dev4_eq (c : Dev nD) : (⟨k0_dev4 c, k0_dev4_lt c⟩ : Dev nD) = ringTo 0 c := by revert c; decide
theorem dev5_eq (c : Dev nD) : (⟨k0_dev5 c, k0_dev5_lt c⟩ : Dev nD) = ringTo 1 c := by revert c; decide
theorem dev6_eq (c : Dev nD) : (⟨k0_dev6 c, k0_dev6_lt c⟩ : Dev nD) = ringTo 2 c := by revert c; decide
theorem dev7_eq (c : Dev nD) : (⟨k0_dev7 c, k0_dev7_lt c⟩ : Dev nD) = ringTo 3 c := by revert c; decide
theorem dev8_eq (c : Dev nD) : (⟨k0_dev8 c, k0_dev8_lt c⟩ : Dev nD) = ringTo 0 c := by revert c; decide
theorem dev9_eq (c : Dev nD) : (⟨k0_dev9 c, k0_dev9_lt c⟩ : Dev nD) = origin 0 0 c := by revert c; decide
theorem dev10_eq (c : Dev nD) : (⟨k0_dev10 c, k0_dev10_lt c⟩ : Dev nD) = ringTo 2 c := by revert c; decide
theorem dev11_eq (c : Dev nD) : (⟨k0_dev11 c, k0_dev11_lt c⟩ : Dev nD) = origin 2 0 c := by revert c; decide
theorem dev12_eq (c : Dev nD) : (⟨k0_dev12 c, k0_dev12_lt c⟩ : Dev nD) = ringTo 1 c := by revert c; decide
theorem dev13_eq (c : Dev nD) : (⟨k0_dev13 c, k0_dev13_lt c⟩ : Dev nD) = origin 1 0 c := by revert c; decide
theorem dev14_eq (c : Dev nD) : (⟨k0_dev14 c, k0_dev14_lt c⟩ : Dev nD) = ringTo 3 c := by revert c; decide
theorem dev15_eq (c : Dev nD) : (⟨k0_dev15 c, k0_dev15_lt c⟩ : Dev nD) = origin 3 0 c := by revert c; decide
theorem dev16_eq (c : Dev nD) : (⟨k0_dev16 c, k0_dev16_lt c⟩ : Dev nD) = origin 0 1 c := by revert c; decide
theorem dev17_eq (c : Dev nD) : (⟨k0_dev17 c, k0_dev17_lt c⟩ : Dev nD) = origin 2 1 c := by revert c; decide
theorem dev18_eq (c : Dev nD) : (⟨k0_dev18 c, k0_dev18_lt c⟩ : Dev nD) = origin 1 1 c := by revert c; decide
theorem dev19_eq (c : Dev nD) : (⟨k0_dev19 c, k0_dev19_lt c⟩ : Dev nD) = origin 3 1 c := by revert c; decide

/-! ## Buffers -/

/-- The two staged operands, the staged result, the landing slots and the product slots. -/
abbrev xM : Memref sig .tc .vmem S1024x4096 .f32 := Memref.whole cc0_stg0_0
abbrev wM : Memref sig .tc .vmem S4096x512 .f32 := Memref.whole cc0_stg1_0
abbrev oM : Memref sig .tc .vmem S4096x512 .f32 := Memref.whole cc0_stg2_0
abbrev bM : Memref sig .tc .vmem S4x2x4096x128 .f32 := Memref.whole cc0_scratch0
abbrev rM : Memref sig .tc .vmem S12x1024x128 .f32 := Memref.whole cc0_scratch1

theorem wc_inb (st : Fin 4) : ∀ a, (![0, 128 * st.val] : Fin 2 → Nat) a + S4096x128.size a ≤ S4096x512.size a := by
  revert st; decide
theorem wb_inb (st : Fin 4) (s : Fin 2) : ∀ a, (![st.val, s.val, 0, 0] : Fin 4 → Nat) a + S1x1x4096x128.size a ≤ S4x2x4096x128.size a := by
  revert st s; decide
theorem rb_inb (k : Fin 12) : ∀ a, (![k.val, 0, 0] : Fin 3 → Nat) a + S1x1024x128.size a ≤ S12x1024x128.size a := by
  revert k; decide
theorem ob_inb (d : Dev nD) (st : Fin 4) : ∀ a, (![1024 * d.val, 128 * st.val] : Fin 2 → Nat) a + S1024x128.size a ≤ S4096x512.size a := by
  revert d st; decide
theorem oo_inb (d : Dev nD) : ∀ a, (![1024 * d.val, 0] : Fin 2 → Nat) a + S1024x512.size a ≤ S4096x512.size a := by
  revert d; decide

/-- Columns of stream `st`. -/
abbrev wcR (st : Fin 4) : Rect S4096x512 := Rect.unit (s := S4096x512) ![0, 128 * st.val] S4096x128.size (wc_inb st)
abbrev wbR (st : Fin 4) (s : Fin 2) : Rect S4x2x4096x128 := Rect.unit (s := S4x2x4096x128) ![st.val, s.val, 0, 0] S1x1x4096x128.size (wb_inb st s)
abbrev rbR (k : Fin 12) : Rect S12x1024x128 := Rect.unit (s := S12x1024x128) ![k.val, 0, 0] S1x1024x128.size (rb_inb k)
/-- Rows of device `d`, columns of stream `st`. -/
abbrev obR (d : Dev nD) (st : Fin 4) : Rect S4096x512 := Rect.unit (s := S4096x512) ![1024 * d.val, 128 * st.val] S1024x128.size (ob_inb d st)
abbrev ooR (d : Dev nD) : Rect S4096x512 := Rect.unit (s := S4096x512) ![1024 * d.val, 0] S1024x512.size (oo_inb d)

def wc (st : Fin 4) : Memref sig .tc .vmem S4096x128 .f32 := wM.slice (wcR st) (fun _ => rfl)
def wb (st : Fin 4) (s : Fin 2) : Memref sig .tc .vmem S4096x128 .f32 :=
  (bM.slice (wbR st s) (fun _ => rfl)).squeeze S4096x128 squeezes_S1x1x4096x128_S4096x128
def rb (k : Fin 12) : Memref sig .tc .vmem S1024x128 .f32 :=
  (rM.slice (rbR k) (fun _ => rfl)).squeeze S1024x128 squeezes_S1x1024x128_S1024x128
def ob (d : Dev nD) (st : Fin 4) : Memref sig .tc .vmem S1024x128 .f32 := oM.slice (obR d st) (fun _ => rfl)
def oo (d : Dev nD) : Memref sig .tc .vmem S1024x512 .f32 := oM.slice (ooR d) (fun _ => rfl)

theorem slice_off {s : Shape} (M : Memref sig .tc .vmem s .f32) {off off' size : Fin s.rank → ℕ} (h : off = off')
    (p : ∀ a, off a + size a ≤ s.size a) (p' : ∀ a, off' a + size a ≤ s.size a) :
    M.slice (Rect.unit (s := s) off size p) (fun _ => rfl) = M.slice (Rect.unit (s := s) off' size p') (fun _ => rfl) := by
  subst h; rfl

theorem off2_view (c : Dev nD) : oM.slice (Rect.unit (s := S4096x512) (k0_off2 c) S1024x128.size (k0_off2_inb c)) (fun _ => rfl) = ob c 0 :=
  slice_off oM (k0_off2_eq c) _ _
theorem off4_view (c : Dev nD) : oM.slice (Rect.unit (s := S4096x512) (k0_off4 c) S1024x128.size (k0_off4_inb c)) (fun _ => rfl) = ob c 1 :=
  slice_off oM (k0_off4_eq c) _ _
theorem off3_view (c : Dev nD) : oM.slice (Rect.unit (s := S4096x512) (k0_off3 c) S1024x128.size (k0_off3_inb c)) (fun _ => rfl) = ob c 2 :=
  slice_off oM (k0_off3_eq c) _ _
theorem off5_view (c : Dev nD) : oM.slice (Rect.unit (s := S4096x512) (k0_off5 c) S1024x128.size (k0_off5_inb c)) (fun _ => rfl) = ob c 3 :=
  slice_off oM (k0_off5_eq c) _ _

theorem wc_0 : wM.slice (Rect.unit (s := S4096x512) ![0, 0] S4096x128.size inb_S4096x512_S4096x128_0_0) (fun _ => rfl) = wc 0 := rfl
theorem wb_21 : (bM.slice (Rect.unit (s := S4x2x4096x128) ![2, 1, 0, 0] S1x1x4096x128.size inb_S4x2x4096x128_S1x1x4096x128_2_1_0_0) (fun _ => rfl)).squeeze S4096x128 squeezes_S1x1x4096x128_S4096x128 = wb 2 1 := rfl

/-! ## Semaphores -/

/-- Slot of stream `st`, round `h`, in each array of twelve. -/
def slot (st : Fin 4) (h : Fin 2) : Fin 12 := ⟨3 * st.val + h.val, by omega⟩

/-- Ring send, ring receive, result send, result receive. -/
def rsS (st : Fin 4) (h : Fin 2) : DmaSem sig := ⟨3 + (3 * st.val + h.val), by show _ < 51; omega⟩
def rvS (st : Fin 4) (h : Fin 2) : DmaSem sig := ⟨15 + (3 * st.val + h.val), by show _ < 51; omega⟩
def osS (st : Fin 4) (h : Fin 2) : DmaSem sig := ⟨27 + (3 * st.val + h.val), by show _ < 51; omega⟩
def ovS (st : Fin 4) (h : Fin 2) : DmaSem sig := ⟨39 + (3 * st.val + h.val), by show _ < 51; omega⟩
abbrev barS : Sem sig := (SemArray.scalar (sig.barrier 0 rfl) : Sems sig S_).sem

theorem rsS_21 : ((cc0_scratch2.slice (Rect.unit (s := S12) ![7] S1.size inb_S12_S1_7)).squeeze S_ squeezes_S1_S_).sem = rsS 2 1 := rfl
theorem ovS_31 : ((cc0_scratch5.slice (Rect.unit (s := S12) ![10] S1.size inb_S12_S1_10)).squeeze S_ squeezes_S1_S_).sem = ovS 3 1 := rfl

/-- What one ring transfer credits, and one result transfer. -/
abbrev NR : ℕ := (wb 0 0).view.dmaCredit
abbrev NO : ℕ := (rb 0).view.dmaCredit
theorem NR_pos : 0 < NR := View.dmaCredit_pos _ (by decide)
theorem NO_pos : 0 < NO := View.dmaCredit_pos _ (by decide)
theorem credit_wb (st : Fin 4) (h : Fin 2) : (wb st h).view.dmaCredit = NR := rfl
theorem credit_wc (st : Fin 4) : (wc st).view.dmaCredit = NR := rfl
theorem credit_rb (k : Fin 12) : (rb k).view.dmaCredit = NO := rfl
theorem credit_ob (d : Dev nD) (st : Fin 4) : (ob d st).view.dmaCredit = NO := rfl

end Cert.RingProof

end
-- ==== Proof.Schedule.lean ====
/-
# The schedule: who credits each semaphore, how much, and what comes with it

Every cell has one round. The barrier cell of `d` has three duties, of one unit each: duty `0` is paid by the
device to the right of `d`, duty `1` by the one to its left, duty `2` by the one opposite. Each hands over the parts of
the payer's own buffers that `d` will write: the landing slots of the streams `d` sends to it, and the blocks of the
result it will receive from `d`.

A ring send cell returns the source of the copy. A ring receive cell hands over the landing slot, holding the columns
of the origin's operand. A result send cell returns the product slot; a result receive cell hands over a block of the
result, holding the product of the owner's rows with this device's columns.
-/
module

public import proofs.«01_k».proof.Proof.Views
public import Idealize.ShloMosaic.Lib.MemrefSat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Contents -/

/-- The two operands of device `c` as its kernel finds them staged. -/
def xv (c : Dev nD) : Vec F S1024x4096 .f32 :=
  (win0_0.blk (0 : Fin 1)).view.read (Elt F) ((s₀ m ρ).mem ((c : Thread nD τ).loc main_arg0))
def wv (c : Dev nD) : Vec F S4096x512 .f32 :=
  (win0_1.blk (0 : Fin 1)).view.read (Elt F) ((s₀ m ρ).mem ((c : Thread nD τ).loc main_arg1))

/-- The columns of stream `st` of device `c`'s second operand. -/
def wcol (st : Fin 4) (c : Dev nD) : Vec F S4096x128 .f32 := fun j => wv m ρ c ((wcR st).emb j)

/-- One product of 1024 rows with 128 columns, and its positive part. -/
def prod (x : Vec F S1024x4096 .f32) (w : Vec F S4096x128 .f32) : FVec F S1024x128 .f32 :=
  maximumf (matmul dot_S1024x4096_S4096x128_S1024x128_1_0_0_1_n_n none (shapeCast S1024x4096 x shapeCasts_S1024x4096_S1024x4096) w
    (constant S1024x128 .f32 0x00000000#32)) (broadcast S1024x128 (Scalar.ofBits .f32 0x00000000#32))

/-- The product that `c` forms in round `h` of stream `st`. -/
def pv (st : Fin 4) (h : Fin 2) (c : Dev nD) : FVec F S1024x128 .f32 := prod (xv m ρ c) (wcol m ρ st (origin st h c))

/-! ## Ownership -/

/-- Device `c` owns the memref's elements at share `q`, and reads `X` through it. -/
abbrev own (c : Dev nD) {s : Shape} (M : Memref sig .tc .vmem s .f32) (q : PosShare TreeShare) (X : s.Idx → Elt F .f32) : sProp 𝕄 :=
  owns (c : Thread nD τ) M q X
/-- Device `c` owns the memref's elements, whatever they hold. -/
def anyAt (c : Dev nD) {s : Shape} (M : Memref sig .tc .vmem s .f32) : sProp 𝕄 :=
  iprop(∃ f : Buf (Elt F) (M.view.loc (c : Thread nD τ)), M.view.loc (c : Thread nD τ) ↦[M.view.set]{fullShare} f)

instance anyAt_storable (c : Dev nD) {s : Shape} (M : Memref sig .tc .vmem s .f32) :
    BI.Storable (upEmb : UEmb _ 𝕄) (anyAt (F := F) c M) := by unfold anyAt; infer_instance

theorem any_of_own (c : Dev nD) {s : Shape} (M : Memref sig .tc .vmem s .f32) (X : s.Idx → Elt F .f32) :
    (own c M fullShare X : sProp 𝕄) ⊢ anyAt c M := by
  unfold own owns anyAt; iintro ⟨%f, -, H⟩; iexists f; iexact H

/-! ## Cells -/

abbrev barC (c : Dev nD) : GSem nD τ sig := ((c : Thread nD τ), .reg barS)
abbrev rsC (st : Fin 4) (h : Fin 2) (c : Dev nD) : GSem nD τ sig := ((c : Thread nD τ), .dma (rsS st h))
abbrev rvC (st : Fin 4) (h : Fin 2) (c : Dev nD) : GSem nD τ sig := ((c : Thread nD τ), .dma (rvS st h))
abbrev osC (st : Fin 4) (h : Fin 2) (c : Dev nD) : GSem nD τ sig := ((c : Thread nD τ), .dma (osS st h))
abbrev ovC (st : Fin 4) (h : Fin 2) (c : Dev nD) : GSem nD τ sig := ((c : Thread nD τ), .dma (ovS st h))

/-! ## Payloads -/

/-- From the right neighbour `n` of `d`: its slots of the streams that move right, and the blocks of `d`'s rows for the
    streams that move left. -/
def pay0 (d : Dev nD) : sProp 𝕄 :=
  iprop(anyAt (F := F) (sh 1 d) (wb 0 0) ∗ anyAt (F := F) (sh 1 d) (wb 0 1) ∗ anyAt (F := F) (sh 1 d) (wb 1 0) ∗ anyAt (F := F) (sh 1 d) (wb 1 1)
    ∗ anyAt (F := F) (sh 1 d) (ob d 2) ∗ anyAt (F := F) (sh 1 d) (ob d 3))
/-- From the left neighbour: its slots of the streams that move left, and the blocks for those that move right. -/
def pay1 (d : Dev nD) : sProp 𝕄 :=
  iprop(anyAt (F := F) (sh 3 d) (wb 2 0) ∗ anyAt (F := F) (sh 3 d) (wb 2 1) ∗ anyAt (F := F) (sh 3 d) (wb 3 0) ∗ anyAt (F := F) (sh 3 d) (wb 3 1)
    ∗ anyAt (F := F) (sh 3 d) (ob d 0) ∗ anyAt (F := F) (sh 3 d) (ob d 1))
/-- From the device opposite: the four blocks of `d`'s rows. -/
def pay2 (d : Dev nD) : sProp 𝕄 :=
  iprop(anyAt (F := F) (sh 2 d) (ob d 0) ∗ anyAt (F := F) (sh 2 d) (ob d 1) ∗ anyAt (F := F) (sh 2 d) (ob d 2) ∗ anyAt (F := F) (sh 2 d) (ob d 3))
def barPay (k : Fin 3) (d : Dev nD) : sProp 𝕄 := if k = 0 then pay0 d else if k = 1 then pay1 d else pay2 d

/-- The source of a ring copy: the columns of the staged operand in round `0`, the first landing slot in round `1`;
    half the share goes along, the kernel reads the other half meanwhile. -/
def rsPay (st : Fin 4) (h : Fin 2) (d : Dev nD) : sProp 𝕄 :=
  if h = 0 then own d (wc st) fullShare.left (wcol m ρ st d) else own d (wb st 0) fullShare.left (wcol m ρ st (origin st 0 d))
def rvPay (st : Fin 4) (h : Fin 2) (d : Dev nD) : sProp 𝕄 := own d (wb st h) fullShare (wcol m ρ st (origin st h d))
def osPay (st : Fin 4) (h : Fin 2) (d : Dev nD) : sProp 𝕄 := own d (rb (slot st h)) fullShare (pv m ρ st h d)
def ovPay (st : Fin 4) (h : Fin 2) (d : Dev nD) : sProp 𝕄 := own d (ob (owner st h d) st) fullShare (pv m ρ st h (owner st h d))

instance pay0_storable (d : Dev nD) : BI.Storable (upEmb : UEmb _ 𝕄) (pay0 (F := F) d) := by unfold pay0; infer_instance
instance pay1_storable (d : Dev nD) : BI.Storable (upEmb : UEmb _ 𝕄) (pay1 (F := F) d) := by unfold pay1; infer_instance
instance pay2_storable (d : Dev nD) : BI.Storable (upEmb : UEmb _ 𝕄) (pay2 (F := F) d) := by unfold pay2; infer_instance
instance barPay_storable (k : Fin 3) (d : Dev nD) : BI.Storable (upEmb : UEmb _ 𝕄) (barPay (F := F) k d) := by
  unfold barPay; (repeat' split) <;> infer_instance

/-- Which array a DMA semaphore belongs to (`0` ring send, `1` ring receive, `2` result send, `3` result receive),
    and its stream and round there. -/
def arrOf (q : DmaSem sig) : ℕ := (q.val - 3) / 12
def stOf (q : DmaSem sig) : Fin 4 := ⟨(q.val - 3) % 12 / 3, by omega⟩
def hOf (q : DmaSem sig) : Fin 2 := ⟨(q.val - 3) % 3 % 2, by omega⟩
/-- The DMA semaphores in use: the third of each stream's three is not. -/
def used (q : DmaSem sig) : Bool := decide (3 ≤ q.val ∧ (q.val - 3) % 3 < 2)

def dmaPay (q : DmaSem sig) (d : Dev nD) : sProp 𝕄 :=
  if arrOf q = 0 then rsPay m ρ (stOf q) (hOf q) d
  else if arrOf q = 1 then rvPay m ρ (stOf q) (hOf q) d
  else if arrOf q = 2 then osPay m ρ (stOf q) (hOf q) d
  else ovPay m ρ (stOf q) (hOf q) d

instance dmaPay_storable (q : DmaSem sig) (d : Dev nD) : BI.Storable (upEmb : UEmb _ 𝕄) (dmaPay (F := F) m ρ q d) := by
  unfold dmaPay rsPay rvPay osPay ovPay own; (repeat' split) <;> infer_instance

def Rd : Rounds.Schedule (GSem nD τ sig) (Fin 3) 𝕄 where
  duties g r := if r = 0 ∧ g.1.2 = .tc then (match g.2 with | .reg _ => Finset.univ | .dma q => if used q then {0} else ∅) else ∅
  unitless _ := False
  amount g _ _ := match g.2 with | .reg _ => 1 | .dma q => if arrOf q < 2 then NR else NO
  payload g _ k := match g.2 with | .reg _ => barPay k g.1.1 | .dma q => dmaPay m ρ q g.1.1
  amount_pos g _ _ _ := by
    rcases g with ⟨c, s | q⟩
    · exact Nat.one_pos
    · dsimp only; split
      · exact NR_pos
      · exact NO_pos

instance Rd_storable (g : GSem nD τ sig) (r : ℕ) (k : Fin 3) : BI.Storable (upEmb : UEmb _ 𝕄) ((Rd (F := F) m ρ).payload g r k) := by
  rcases g with ⟨c, s | q⟩
  · exact barPay_storable k c.1
  · exact dmaPay_storable m ρ q c.1

section Sched
variable (c : Dev nD) (st : Fin 4) (h : Fin 2)

theorem used_rs : used (rsS st h) = true := by revert st h; decide
theorem used_rv : used (rvS st h) = true := by revert st h; decide
theorem used_os : used (osS st h) = true := by revert st h; decide
theorem used_ov : used (ovS st h) = true := by revert st h; decide
theorem arr_rs : arrOf (rsS st h) = 0 := by revert st h; decide
theorem arr_rv : arrOf (rvS st h) = 1 := by revert st h; decide
theorem arr_os : arrOf (osS st h) = 2 := by revert st h; decide
theorem arr_ov : arrOf (ovS st h) = 3 := by revert st h; decide
theorem st_rs : stOf (rsS st h) = st := by revert st h; decide
theorem st_rv : stOf (rvS st h) = st := by revert st h; decide
theorem st_os : stOf (osS st h) = st := by revert st h; decide
theorem st_ov : stOf (ovS st h) = st := by revert st h; decide
theorem h_rs : hOf (rsS st h) = h := by revert st h; decide
theorem h_rv : hOf (rvS st h) = h := by revert st h; decide
theorem h_os : hOf (osS st h) = h := by revert st h; decide
theorem h_ov : hOf (ovS st h) = h := by revert st h; decide

theorem duties_bar : (Rd (F := F) m ρ).duties (barC c) 0 = Finset.univ := by dsimp only [Rd]; exact if_pos ⟨rfl, rfl⟩
theorem duties_dma (q : DmaSem sig) (hq : used q = true) : (Rd (F := F) m ρ).duties ((c : Thread nD τ), .dma q) 0 = {0} := by
  dsimp only [Rd]; rw [if_pos ⟨rfl, rfl⟩, if_pos hq]
theorem duties_unused (q : DmaSem sig) (hq : used q = false) (r : ℕ) : (Rd (F := F) m ρ).duties ((c : Thread nD τ), .dma q) r = ∅ := by
  dsimp only [Rd]; rw [hq]; split <;> rfl
theorem duties_later (g : GSem nD τ sig) : ∀ r, 1 ≤ r → (Rd (F := F) m ρ).duties g r = ∅ :=
  fun r hr => by dsimp only [Rd]; rw [if_neg fun h => by omega]

theorem amount_bar (k : Fin 3) : (Rd (F := F) m ρ).amount (barC c) 0 k = 1 := rfl
theorem amount_R (q : DmaSem sig) (hq : arrOf q < 2) (k : Fin 3) : (Rd (F := F) m ρ).amount ((c : Thread nD τ), .dma q) 0 k = NR := by
  dsimp only [Rd]; exact if_pos hq
theorem amount_O (q : DmaSem sig) (hq : ¬ arrOf q < 2) (k : Fin 3) : (Rd (F := F) m ρ).amount ((c : Thread nD τ), .dma q) 0 k = NO := by
  dsimp only [Rd]; exact if_neg hq

theorem expect_bar : (Rd (F := F) m ρ).expect (barC c) 0 = 3 := by
  unfold Schedule.expect Schedule.amountOf
  rw [duties_bar, Finset.sum_congr rfl fun k _ => amount_bar m ρ c k, Finset.sum_const, Finset.card_univ, Fintype.card_fin, smul_eq_mul]
theorem expect_dma (q : DmaSem sig) (hq : used q = true) (N : ℕ) (hN : (Rd (F := F) m ρ).amount ((c : Thread nD τ), .dma q) 0 0 = N) :
    (Rd (F := F) m ρ).expect ((c : Thread nD τ), .dma q) 0 = N := by
  unfold Schedule.expect Schedule.amountOf; rw [duties_dma m ρ c q hq, Finset.sum_singleton, hN]

theorem payload_bar (k : Fin 3) : (Rd (F := F) m ρ).payload (barC c) 0 k = barPay k c := rfl
theorem payload_rs (k : Fin 3) : (Rd (F := F) m ρ).payload (rsC st h c) 0 k = rsPay m ρ st h c := by
  dsimp only [Rd, dmaPay]; rw [arr_rs, if_pos rfl, st_rs, h_rs]
theorem payload_rv (k : Fin 3) : (Rd (F := F) m ρ).payload (rvC st h c) 0 k = rvPay m ρ st h c := by
  dsimp only [Rd, dmaPay]; rw [arr_rv, if_neg (by decide), if_pos rfl, st_rv, h_rv]
theorem payload_os (k : Fin 3) : (Rd (F := F) m ρ).payload (osC st h c) 0 k = osPay m ρ st h c := by
  dsimp only [Rd, dmaPay]; rw [arr_os, if_neg (by decide), if_neg (by decide), if_pos rfl, st_os, h_os]
theorem payload_ov (k : Fin 3) : (Rd (F := F) m ρ).payload (ovC st h c) 0 k = ovPay m ρ st h c := by
  dsimp only [Rd, dmaPay]; rw [arr_ov, if_neg (by decide), if_neg (by decide), if_neg (by decide), st_ov, h_ov]

theorem rest_bar : bigSep ((Rd (F := F) m ρ).duties (barC c) 0 \ ∅) (fun k => (Rd (F := F) m ρ).payload (barC c) 0 k)
    = iprop(pay0 c ∗ pay1 c ∗ pay2 c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_dma (q : DmaSem sig) (hq : used q = true) :
    bigSep ((Rd (F := F) m ρ).duties ((c : Thread nD τ), .dma q) 0 \ ∅) (fun k => (Rd (F := F) m ρ).payload ((c : Thread nD τ), .dma q) 0 k)
      = (Rd (F := F) m ρ).payload ((c : Thread nD τ), .dma q) 0 0 := by
  rw [Finset.sdiff_empty, duties_dma m ρ c q hq, bigSep_singleton]

end Sched

/-! ## What each device owes, in the order in which it pays; the levels -/

/-- A list of credits still to be paid, the next first. -/
def owedL : List (GSem nD τ sig × ℕ) → CellTallies nD τ sig Unit
  | [] => 0
  | a :: l => owedL l + tallyAt a.1 () a.2

/-- The eight ring copies, eight result copies and three signals of `c`, in program order. -/
def dues (c : Dev nD) : List (GSem nD τ sig × ℕ) :=
  [(barC (sh 3 c), 1), (barC (sh 1 c), 1), (barC (sh 2 c), 1),
   (rvC 0 0 (ringTo 0 c), NR), (rvC 1 0 (ringTo 1 c), NR), (rvC 2 0 (ringTo 2 c), NR), (rvC 3 0 (ringTo 3 c), NR),
   (rvC 0 1 (ringTo 0 c), NR), (ovC 0 0 (origin 0 0 c), NO),
   (rvC 2 1 (ringTo 2 c), NR), (ovC 2 0 (origin 2 0 c), NO),
   (rvC 1 1 (ringTo 1 c), NR), (ovC 1 0 (origin 1 0 c), NO),
   (rvC 3 1 (ringTo 3 c), NR), (ovC 3 0 (origin 3 0 c), NO),
   (ovC 0 1 (origin 0 1 c), NO), (ovC 2 1 (origin 2 1 c), NO), (ovC 1 1 (origin 1 1 c), NO), (ovC 3 1 (origin 3 1 c), NO)]

def L (g : GSem nD τ sig) : Finset Unit := if g.1.2 = .tc then {()} else ∅
/-- Barrier first, then the ring's first round, its second, then the results; everything a device waits for of its own
    sends and of the pipeline is at level `0`. -/
def lvl (s : SemLoc sig) : ℕ :=
  match s with
  | .reg _ => 1
  | .dma q => if q.val < 3 then 0 else if arrOf q = 1 then 2 + (hOf q).val else if arrOf q = 3 then 4 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem owedL_pos {l : List (GSem nD τ sig × ℕ)} {g : GSem nD τ sig} {u : Unit} (h : 0 < owedL l g u) : ∃ a ∈ l, g = a.1 := by
  induction l with
  | nil => exact absurd h (Nat.lt_irrefl 0)
  | cons a l ih =>
    unfold owedL at h
    rw [Pi.add_apply, Finsupp.add_apply, tallyAt_apply] at h
    by_cases hg : g = a.1
    · exact ⟨a, List.mem_cons_self, hg⟩
    · rw [if_neg (fun h' => hg h'.1), Nat.add_zero] at h
      obtain ⟨b, hb, e⟩ := ih h
      exact ⟨b, List.mem_cons_of_mem _ hb, e⟩

/-- A device may wait on a cell while it owes only cells of higher level. -/
theorem mayWait_of (c : Dev nD) (sm : SemLoc sig) (l : List (GSem nD τ sig × ℕ))
    (hl : ∀ a ∈ l, a.1.1.2 = .tc ∧ lvl sm < lvl a.1.2) :
    (levAts L lv : sProp 𝕄) ⊢ MayWait (c : Thread nD τ) sm () (owedL l) :=
  MayOwe.of_cut (L := L) (lev := lv) (lvl sm)
    (fun p hp => by rw [Finset.mem_singleton.mp hp, L_tc]; exact Finset.mem_singleton_self _)
    (fun g u hg => by obtain ⟨a, ha, rfl⟩ := owedL_pos hg; unfold L; rw [if_pos (hl a ha).1]; exact Finset.mem_singleton_self _)
    (fun p hp => by rw [Finset.mem_singleton.mp hp]; exact Nat.le_refl _)
    (fun g u hg => by obtain ⟨a, ha, rfl⟩ := owedL_pos hg; exact (hl a ha).2)

end Cert.RingProof

end
-- ==== Proof.Split.lean ====
/-
# Cutting a buffer into disjoint parts, and putting it together again
-/
module

public import proofs.«01_k».proof.Proof.Schedule
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

section Generic
variable {s : Shape} (c : Dev nD) (M : Memref sig .tc .vmem s .f32) {T : Type} [Fintype T] [DecidableEq T] (r : T → Rect s)
  (hr : ∀ t a, (r t).stride a = 1) (hd : ∀ t t', t ≠ t' → Disjoint (r t).set (r t').set)
  (hcov : (Finset.univ : Finset T).biUnion (fun t => (r t).set) = Finset.univ)

include hd in
/-- Values given on each part of a disjoint family are the parts of one function. -/
theorem exists_glue (Xs : ∀ t, (r t).shape.Idx → Elt F .f32) : ∃ X : s.Idx → Elt F .f32, ∀ t j, X ((r t).emb j) = Xs t j := by
  classical
  have inj : Function.Injective (fun p : (t : T) × (r t).shape.Idx => (r p.1).emb p.2) := by
    rintro ⟨t, j⟩ ⟨t', j'⟩ h
    have ht : t = t' := by
      by_contra hne
      have h1 : (r t).emb j ∈ (r t).set := by rw [← Rect.map_emb_univ]; exact Finset.mem_map_of_mem _ (Finset.mem_univ _)
      have h2 : (r t').emb j' ∈ (r t').set := by rw [← Rect.map_emb_univ]; exact Finset.mem_map_of_mem _ (Finset.mem_univ _)
      exact Finset.disjoint_left.mp (hd t t' hne) h1 (by have e : (r t).emb j = (r t').emb j' := h; rw [e]; exact h2)
    subst ht
    exact congrArg (Sigma.mk t) ((r t).emb.injective h)
  refine ⟨Function.extend (fun p : (t : T) × (r t).shape.Idx => (r p.1).emb p.2) (fun p => Xs p.1 p.2)
    (fun _ => FloatOps.ofBits .f32 0), fun t j => ?_⟩
  exact inj.extend_apply _ _ (⟨t, j⟩ : (t : T) × (r t).shape.Idx)

include hd hcov in
theorem cut_any : (anyAt c M : sProp 𝕄) ⊢ bigSep Finset.univ fun t => anyAt c (M.slice (r t) (hr t)) := by
  unfold anyAt
  iintro ⟨%f, H⟩
  ihave H := (Entails.of_eq (pointsTo_rects (c : Thread nD τ) M fullShare r hr hd hcov f)) $$ H
  iapply (show (bigSep Finset.univ fun t => own c (M.slice (r t) (hr t)) fullShare (fun j => M.view.read (Elt F) f ((r t).emb j)) : sProp 𝕄)
    ⊢ bigSep Finset.univ fun t => anyAt c (M.slice (r t) (hr t)) from bigSep_mono fun t _ => any_of_own c (M.slice (r t) (hr t)) _)
  iexact H

include hd hcov in
theorem glue_own (Xs : ∀ t, (r t).shape.Idx → Elt F .f32) :
    (bigSep Finset.univ fun t => own c (M.slice (r t) (hr t)) fullShare (Xs t) : sProp 𝕄)
      ⊢ iprop(∃ X, ⌜∀ t j, X ((r t).emb j) = Xs t j⌝ ∗ own c M fullShare X) := by
  obtain ⟨X, hX⟩ := exists_glue r hd Xs
  have e : (bigSep Finset.univ fun t => own c (M.slice (r t) (hr t)) fullShare (Xs t) : sProp 𝕄)
      = bigSep Finset.univ fun t => own c (M.slice (r t) (hr t)) fullShare (fun j => X ((r t).emb j)) :=
    bigSep_congr fun t _ => by rw [show (fun j => X ((r t).emb j)) = Xs t from funext (hX t)]
  rw [e]
  iintro H
  iexists X
  isplitr; · (ipureintro; exact hX)
  iapply (owns_of_rects (c : Thread nD τ) M fullShare r hr hd hcov X)
  iexact H

include hd hcov in
theorem glue_any : (bigSep Finset.univ fun t => anyAt c (M.slice (r t) (hr t)) : sProp 𝕄) ⊢ anyAt c M := by
  have h1 (t : T) : (anyAt c (M.slice (r t) (hr t)) : sProp 𝕄) ⊢ iprop(∃ X, own c (M.slice (r t) (hr t)) fullShare X) := by
    unfold anyAt; iintro ⟨%f, H⟩; iexists _; iapply (owns_intro (c : Thread nD τ) (M.slice (r t) (hr t)) fullShare f); iexact H
  haveI : ∀ t, Nonempty ((r t).shape.Idx → Elt F .f32) := fun t => ⟨fun _ => FloatOps.ofBits .f32 0⟩
  iintro H
  ihave H := (show (bigSep Finset.univ fun t => anyAt c (M.slice (r t) (hr t)) : sProp 𝕄)
    ⊢ bigSep Finset.univ fun t => iprop(∃ X, own c (M.slice (r t) (hr t)) fullShare X) from bigSep_mono fun t _ => h1 t) $$ H
  ihave H := (BI.bigSep_exists_pi Finset.univ (fun t X => (own c (M.slice (r t) (hr t)) fullShare X : sProp 𝕄))) $$ H
  icases H with ⟨%Xs, H⟩
  ihave H := (glue_own c M r hr hd hcov Xs) $$ H
  icases H with ⟨%X, -, H⟩
  iapply (any_of_own c M X); iexact H
end Generic

/-! ## The three families -/

theorem disj_of {s : Shape} {A B : Finset s.Idx} (h : ∀ i, i ∈ A → i ∈ B → False) : Disjoint A B :=
  Finset.disjoint_left.mpr fun i ha hb => h i ha hb

theorem wcR_disj (t t' : Fin 4) (h : t ≠ t') : Disjoint (wcR t).set (wcR t').set := by
  refine disj_of fun i h1 h2 => h (Fin.ext ?_)
  have a := Rect.mem_set_unit.mp h1 1; have b := Rect.mem_set_unit.mp h2 1
  have a1 : 128 * t.val ≤ (i 1).val ∧ (i 1).val < 128 * t.val + 128 := a
  have b1 : 128 * t'.val ≤ (i 1).val ∧ (i 1).val < 128 * t'.val + 128 := b
  omega
theorem wcR_cov : (Finset.univ : Finset (Fin 4)).biUnion (fun t => (wcR t).set) = Finset.univ := by
  refine Finset.eq_univ_iff_forall.mpr fun i => Finset.mem_biUnion.mpr ?_
  have h0 : (i 0).val < 4096 := (i 0).isLt
  have h1 : (i 1).val < 512 := (i 1).isLt
  refine ⟨⟨(i 1).val / 128, by omega⟩, Finset.mem_univ _, Rect.mem_set_unit.mpr fun a => ?_⟩
  fin_cases a
  · show 0 ≤ (i 0).val ∧ (i 0).val < 0 + 4096; omega
  · show 128 * ((i 1).val / 128) ≤ (i 1).val ∧ (i 1).val < 128 * ((i 1).val / 128) + 128; omega

abbrev wbF (t : Fin 4 × Fin 2) : Rect S4x2x4096x128 := wbR t.1 t.2
theorem wbF_disj (t t' : Fin 4 × Fin 2) (h : t ≠ t') : Disjoint (wbF t).set (wbF t').set := by
  refine disj_of fun i h1 h2 => h (Prod.ext (Fin.ext ?_) (Fin.ext ?_))
  · have a : t.1.val ≤ (i 0).val ∧ (i 0).val < t.1.val + 1 := Rect.mem_set_unit.mp h1 0
    have b : t'.1.val ≤ (i 0).val ∧ (i 0).val < t'.1.val + 1 := Rect.mem_set_unit.mp h2 0
    omega
  · have a : t.2.val ≤ (i 1).val ∧ (i 1).val < t.2.val + 1 := Rect.mem_set_unit.mp h1 1
    have b : t'.2.val ≤ (i 1).val ∧ (i 1).val < t'.2.val + 1 := Rect.mem_set_unit.mp h2 1
    omega
theorem wbF_cov : (Finset.univ : Finset (Fin 4 × Fin 2)).biUnion (fun t => (wbF t).set) = Finset.univ := by
  refine Finset.eq_univ_iff_forall.mpr fun i => Finset.mem_biUnion.mpr ?_
  have h0 : (i 0).val < 4 := (i 0).isLt
  have h1 : (i 1).val < 2 := (i 1).isLt
  have h2 : (i 2).val < 4096 := (i 2).isLt
  have h3 : (i 3).val < 128 := (i 3).isLt
  refine ⟨(⟨(i 0).val, h0⟩, ⟨(i 1).val, h1⟩), Finset.mem_univ _, Rect.mem_set_unit.mpr fun a => ?_⟩
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 4096; omega
  · show 0 ≤ (i 3).val ∧ (i 3).val < 0 + 128; omega

theorem rbR_disj (t t' : Fin 12) (h : t ≠ t') : Disjoint (rbR t).set (rbR t').set := by
  refine disj_of fun i h1 h2 => h (Fin.ext ?_)
  have a : t.val ≤ (i 0).val ∧ (i 0).val < t.val + 1 := Rect.mem_set_unit.mp h1 0
  have b : t'.val ≤ (i 0).val ∧ (i 0).val < t'.val + 1 := Rect.mem_set_unit.mp h2 0
  omega
theorem rbR_cov : (Finset.univ : Finset (Fin 12)).biUnion (fun t => (rbR t).set) = Finset.univ := by
  refine Finset.eq_univ_iff_forall.mpr fun i => Finset.mem_biUnion.mpr ?_
  have h0 : (i 0).val < 12 := (i 0).isLt
  have h1 : (i 1).val < 1024 := (i 1).isLt
  have h2 : (i 2).val < 128 := (i 2).isLt
  refine ⟨⟨(i 0).val, h0⟩, Finset.mem_univ _, Rect.mem_set_unit.mpr fun a => ?_⟩
  fin_cases a
  · show (i 0).val ≤ (i 0).val ∧ (i 0).val < (i 0).val + 1; omega
  · show 0 ≤ (i 1).val ∧ (i 1).val < 0 + 1024; omega
  · show 0 ≤ (i 2).val ∧ (i 2).val < 0 + 128; omega

/-- The result's parts at device `c`: its own rows, and each other device's rows cut by stream. -/
def outF (c : Dev nD) : Option (Fin 3 × Fin 4) → Rect S4096x512
  | none => ooR c
  | some p => obR (sh (p.1.val + 1) c) p.2
theorem outF_stride (c : Dev nD) (t : Option (Fin 3 × Fin 4)) (a) : (outF c t).stride a = 1 := by
  rcases t with _ | p <;> rfl
theorem outF_disj (c : Dev nD) (t t' : Option (Fin 3 × Fin 4)) (h : t ≠ t') : Disjoint (outF c t).set (outF c t').set := by
  have hc := c.isLt
  refine disj_of fun i h1 h2 => h ?_
  rcases t with _ | ⟨k, st⟩ <;> rcases t' with _ | ⟨k', st'⟩
  · rfl
  · exfalso
    have a : 1024 * c.val ≤ (i 0).val ∧ (i 0).val < 1024 * c.val + 1024 := (Rect.mem_set_unit (inb := oo_inb c)).mp h1 0
    have b : 1024 * ((c.val + (k'.val + 1)) % 4) ≤ (i 0).val ∧ (i 0).val < 1024 * ((c.val + (k'.val + 1)) % 4) + 1024 := (Rect.mem_set_unit (inb := ob_inb _ _)).mp h2 0
    have := k'.isLt
    have hn : nD = 4 := rfl
    omega
  · exfalso
    have a : 1024 * c.val ≤ (i 0).val ∧ (i 0).val < 1024 * c.val + 1024 := (Rect.mem_set_unit (inb := oo_inb c)).mp h2 0
    have b : 1024 * ((c.val + (k.val + 1)) % 4) ≤ (i 0).val ∧ (i 0).val < 1024 * ((c.val + (k.val + 1)) % 4) + 1024 := (Rect.mem_set_unit (inb := ob_inb _ _)).mp h1 0
    have := k.isLt
    have hn : nD = 4 := rfl
    omega
  · have a : 1024 * ((c.val + (k.val + 1)) % 4) ≤ (i 0).val ∧ (i 0).val < 1024 * ((c.val + (k.val + 1)) % 4) + 1024 := (Rect.mem_set_unit (inb := ob_inb _ _)).mp h1 0
    have b : 1024 * ((c.val + (k'.val + 1)) % 4) ≤ (i 0).val ∧ (i 0).val < 1024 * ((c.val + (k'.val + 1)) % 4) + 1024 := (Rect.mem_set_unit (inb := ob_inb _ _)).mp h2 0
    have a1 : 128 * st.val ≤ (i 1).val ∧ (i 1).val < 128 * st.val + 128 := (Rect.mem_set_unit (inb := ob_inb _ _)).mp h1 1
    have b1 : 128 * st'.val ≤ (i 1).val ∧ (i 1).val < 128 * st'.val + 128 := (Rect.mem_set_unit (inb := ob_inb _ _)).mp h2 1
    have hk := k.isLt
    have hk' := k'.isLt
    have hn : nD = 4 := rfl
    have e1 : k = k' := Fin.ext (by omega)
    have e2 : st = st' := Fin.ext (by omega)
    rw [e1, e2]
theorem outF_cov (c : Dev nD) : (Finset.univ : Finset (Option (Fin 3 × Fin 4))).biUnion (fun t => (outF c t).set) = Finset.univ := by
  refine Finset.eq_univ_iff_forall.mpr fun i => Finset.mem_biUnion.mpr ?_
  have h0 : (i 0).val < 4096 := (i 0).isLt
  have h1 : (i 1).val < 512 := (i 1).isLt
  have hc : c.val < 4 := c.isLt
  by_cases hd : (i 0).val / 1024 = c.val
  · refine ⟨none, Finset.mem_univ _, (Rect.mem_set_unit (inb := oo_inb c)).mpr fun a => ?_⟩
    fin_cases a
    · show 1024 * c.val ≤ (i 0).val ∧ (i 0).val < 1024 * c.val + 1024; omega
    · show 0 ≤ (i 1).val ∧ (i 1).val < 0 + 512; omega
  · refine ⟨some (⟨((i 0).val / 1024 + 3 - c.val) % 4, by omega⟩, ⟨(i 1).val / 128, by omega⟩), Finset.mem_univ _, (Rect.mem_set_unit (inb := ob_inb _ _)).mpr fun a => ?_⟩
    fin_cases a
    · show 1024 * ((c.val + (((i 0).val / 1024 + 3 - c.val) % 4 + 1)) % 4) ≤ (i 0).val
        ∧ (i 0).val < 1024 * ((c.val + (((i 0).val / 1024 + 3 - c.val) % 4 + 1)) % 4) + 1024
      omega
    · show 128 * ((i 1).val / 128) ≤ (i 1).val ∧ (i 1).val < 128 * ((i 1).val / 128) + 128; omega

/-! ## The buffers in parts -/

theorem any_wb_eq (c : Dev nD) (st : Fin 4) (s : Fin 2) : (anyAt c (wb st s) : sProp 𝕄) = anyAt c (bM.slice (wbR st s) (fun _ => rfl)) := by
  have e : (wb st s).view.set = (bM.slice (wbR st s) (fun _ => rfl)).view.set := View.set_reshape _ _
  unfold anyAt; rw [e]; rfl
theorem any_rb_eq (c : Dev nD) (k : Fin 12) : (anyAt c (rb k) : sProp 𝕄) = anyAt c (rM.slice (rbR k) (fun _ => rfl)) := by
  have e : (rb k).view.set = (rM.slice (rbR k) (fun _ => rfl)).view.set := View.set_reshape _ _
  unfold anyAt; rw [e]; rfl

theorem b_parts (c : Dev nD) : (bigSep Finset.univ fun t : Fin 4 × Fin 2 => anyAt c (bM.slice (wbF t) (fun _ => rfl)) : sProp 𝕄)
    = iprop(anyAt c (wb 0 0) ∗ anyAt c (wb 0 1) ∗ anyAt c (wb 1 0) ∗ anyAt c (wb 1 1) ∗ anyAt c (wb 2 0) ∗ anyAt c (wb 2 1) ∗ anyAt c (wb 3 0) ∗ anyAt c (wb 3 1)) := by
  rw [bigSep_congr (s := Finset.univ) (fun (t : Fin 4 × Fin 2) _ => (any_wb_eq (F := F) c t.1 t.2).symm),
    bigSep_univ_eq_bigSepL [(0, 0), (0, 1), (1, 0), (1, 1), (2, 0), (2, 1), (3, 0), (3, 1)] (by decide) (by decide)]
  rfl
theorem r_parts (c : Dev nD) : (bigSep Finset.univ fun t : Fin 12 => anyAt c (rM.slice (rbR t) (fun _ => rfl)) : sProp 𝕄)
    = iprop(anyAt c (rb 0) ∗ anyAt c (rb 1) ∗ anyAt c (rb 2) ∗ anyAt c (rb 3) ∗ anyAt c (rb 4) ∗ anyAt c (rb 5) ∗ anyAt c (rb 6) ∗ anyAt c (rb 7)
      ∗ anyAt c (rb 8) ∗ anyAt c (rb 9) ∗ anyAt c (rb 10) ∗ anyAt c (rb 11)) := by
  rw [bigSep_congr (s := Finset.univ) (fun (t : Fin 12) _ => (any_rb_eq (F := F) c t).symm),
    bigSep_univ_eq_bigSepL [0, 1, 2, 3, 4, 5, 6, 7, 8, 9, 10, 11] (by decide) (by decide)]
  rfl

theorem any_whole (c : Dev nD) (b : Ref sig .tc) {s : Shape} (M : Memref sig .tc .vmem s .f32) (h : M.view.set = Finset.univ) :
    (anyAt c M : sProp 𝕄) = iprop(∃ f : Buf (Elt F) (M.view.loc (c : Thread nD τ)), M.view.loc (c : Thread nD τ) ↦{fullShare} f) := by
  unfold anyAt; rw [h]

theorem b_split (c : Dev nD) : (anyAt c bM : sProp 𝕄)
    ⊢ iprop(anyAt c (wb 0 0) ∗ anyAt c (wb 0 1) ∗ anyAt c (wb 1 0) ∗ anyAt c (wb 1 1) ∗ anyAt c (wb 2 0) ∗ anyAt c (wb 2 1) ∗ anyAt c (wb 3 0) ∗ anyAt c (wb 3 1)) :=
  (cut_any c bM wbF (fun _ _ => rfl) wbF_disj wbF_cov).trans (Entails.of_eq (b_parts c))
theorem b_join (c : Dev nD) :
    iprop(anyAt c (wb 0 0) ∗ anyAt c (wb 0 1) ∗ anyAt c (wb 1 0) ∗ anyAt c (wb 1 1) ∗ anyAt c (wb 2 0) ∗ anyAt c (wb 2 1) ∗ anyAt c (wb 3 0) ∗ anyAt c (wb 3 1))
      ⊢ (anyAt c bM : sProp 𝕄) :=
  (Entails.of_eq (b_parts c).symm).trans (glue_any c bM wbF (fun _ _ => rfl) wbF_disj wbF_cov)
theorem r_split (c : Dev nD) : (anyAt c rM : sProp 𝕄)
    ⊢ iprop(anyAt c (rb 0) ∗ anyAt c (rb 1) ∗ anyAt c (rb 2) ∗ anyAt c (rb 3) ∗ anyAt c (rb 4) ∗ anyAt c (rb 5) ∗ anyAt c (rb 6) ∗ anyAt c (rb 7)
      ∗ anyAt c (rb 8) ∗ anyAt c (rb 9) ∗ anyAt c (rb 10) ∗ anyAt c (rb 11)) :=
  (cut_any c rM rbR (fun _ _ => rfl) rbR_disj rbR_cov).trans (Entails.of_eq (r_parts c))
theorem r_join (c : Dev nD) :
    iprop(anyAt c (rb 0) ∗ anyAt c (rb 1) ∗ anyAt c (rb 2) ∗ anyAt c (rb 3) ∗ anyAt c (rb 4) ∗ anyAt c (rb 5) ∗ anyAt c (rb 6) ∗ anyAt c (rb 7)
      ∗ anyAt c (rb 8) ∗ anyAt c (rb 9) ∗ anyAt c (rb 10) ∗ anyAt c (rb 11)) ⊢ (anyAt c rM : sProp 𝕄) :=
  (Entails.of_eq (r_parts c).symm).trans (glue_any c rM rbR (fun _ _ => rfl) rbR_disj rbR_cov)

theorem outL_univ : (Finset.univ : Finset (Option (Fin 3 × Fin 4))) = [none, some (0, 0), some (0, 1), some (0, 2), some (0, 3),
    some (1, 0), some (1, 1), some (1, 2), some (1, 3), some (2, 0), some (2, 1), some (2, 2), some (2, 3)].toFinset := by decide

theorem o_split (c : Dev nD) : (anyAt c oM : sProp 𝕄)
    ⊢ iprop(anyAt c (oo c) ∗ anyAt c (ob (sh 1 c) 0) ∗ anyAt c (ob (sh 1 c) 1) ∗ anyAt c (ob (sh 1 c) 2) ∗ anyAt c (ob (sh 1 c) 3)
      ∗ anyAt c (ob (sh 2 c) 0) ∗ anyAt c (ob (sh 2 c) 1) ∗ anyAt c (ob (sh 2 c) 2) ∗ anyAt c (ob (sh 2 c) 3)
      ∗ anyAt c (ob (sh 3 c) 0) ∗ anyAt c (ob (sh 3 c) 1) ∗ anyAt c (ob (sh 3 c) 2) ∗ anyAt c (ob (sh 3 c) 3)) :=
  (cut_any c oM (outF c) (outF_stride c) (outF_disj c) (outF_cov c)).trans (Entails.of_eq (by
    rw [bigSep_univ_eq_bigSepL _ outL_univ (by decide)]; rfl))

/-- What the parts hold once joined: each family member's contents. -/
theorem o_join (c : Dev nD) (Xo : S1024x512.Idx → Elt F .f32) (Xb : Fin 3 × Fin 4 → S1024x128.Idx → Elt F .f32) :
    iprop(own c (oo c) fullShare Xo
      ∗ own c (ob (sh 1 c) 0) fullShare (Xb (0, 0)) ∗ own c (ob (sh 1 c) 1) fullShare (Xb (0, 1)) ∗ own c (ob (sh 1 c) 2) fullShare (Xb (0, 2)) ∗ own c (ob (sh 1 c) 3) fullShare (Xb (0, 3))
      ∗ own c (ob (sh 2 c) 0) fullShare (Xb (1, 0)) ∗ own c (ob (sh 2 c) 1) fullShare (Xb (1, 1)) ∗ own c (ob (sh 2 c) 2) fullShare (Xb (1, 2)) ∗ own c (ob (sh 2 c) 3) fullShare (Xb (1, 3))
      ∗ own c (ob (sh 3 c) 0) fullShare (Xb (2, 0)) ∗ own c (ob (sh 3 c) 1) fullShare (Xb (2, 1)) ∗ own c (ob (sh 3 c) 2) fullShare (Xb (2, 2)) ∗ own c (ob (sh 3 c) 3) fullShare (Xb (2, 3)))
      ⊢ (iprop(∃ X : S4096x512.Idx → Elt F .f32, ⌜(∀ j, X ((ooR c).emb j) = Xo j) ∧ ∀ k st j, X ((obR (sh (k.val + 1) c) st).emb j) = Xb (k, st) j⌝ ∗ own c oM fullShare X) : sProp 𝕄) := by
  let Xs : ∀ t, (outF c t).shape.Idx → Elt F .f32 := fun t => match t with | none => Xo | some p => Xb p
  refine (Entails.of_eq (?_ : _ = bigSep Finset.univ fun t => own c (oM.slice (outF c t) (outF_stride c t)) fullShare (Xs t))).trans
    ((glue_own c oM (outF c) (outF_stride c) (outF_disj c) (outF_cov c) Xs).trans ?_)
  · rw [bigSep_univ_eq_bigSepL _ outL_univ (by decide)]; rfl
  · iintro ⟨%X, %hX, H⟩
    iexists X
    isplitr
    · ipureintro
      exact ⟨fun j => hX none j, fun k st j => hX (some (k, st)) j⟩
    iexact H

theorem w_cols (c : Dev nD) (q : PosShare TreeShare) : (bigSep Finset.univ fun t : Fin 4 => own c (wM.slice (wcR t) (fun _ => rfl)) q (fun j => wv m ρ c ((wcR t).emb j)) : sProp 𝕄)
    = iprop(own c (wc 0) q (wcol m ρ 0 c) ∗ own c (wc 1) q (wcol m ρ 1 c) ∗ own c (wc 2) q (wcol m ρ 2 c) ∗ own c (wc 3) q (wcol m ρ 3 c)) := by
  rw [bigSep_univ_eq_bigSepL [0, 1, 2, 3] (by decide) (by decide)]; rfl
theorem w_split (c : Dev nD) (q : PosShare TreeShare) : (own c wM q (wv m ρ c) : sProp 𝕄)
    ⊢ iprop(own c (wc 0) q (wcol m ρ 0 c) ∗ own c (wc 1) q (wcol m ρ 1 c) ∗ own c (wc 2) q (wcol m ρ 2 c) ∗ own c (wc 3) q (wcol m ρ 3 c)) :=
  (owns_rects (c : Thread nD τ) wM q wcR (fun _ _ => rfl) wcR_disj wcR_cov (wv m ρ c)).trans (Entails.of_eq (w_cols m ρ c q))
theorem w_join (c : Dev nD) (q : PosShare TreeShare) :
    iprop(own c (wc 0) q (wcol m ρ 0 c) ∗ own c (wc 1) q (wcol m ρ 1 c) ∗ own c (wc 2) q (wcol m ρ 2 c) ∗ own c (wc 3) q (wcol m ρ 3 c))
      ⊢ (own c wM q (wv m ρ c) : sProp 𝕄) :=
  (Entails.of_eq (w_cols m ρ c q).symm).trans (owns_of_rects (c : Thread nD τ) wM q wcR (fun _ _ => rfl) wcR_disj wcR_cov (wv m ρ c))

end Cert.RingProof

end
-- ==== Proof.Steps.lean ====
/-
# One rule per kind of effect of the kernel

Every rule is stated once for any device, stream and round. `env` is the standing knowledge (the cells' invariants and
the levels); `ow c l` says that `c` still owes the credits listed in `l`, the next first.
-/
module

public import proofs.«01_k».proof.Proof.Schedule

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The standing knowledge -/

/-- The kernel's own semaphores: its four arrays of twelve, then the barrier. -/
def ksem (k : Fin 49) : SemLoc sig := if h : k.val < 48 then .dma ⟨3 + k.val, by show _ < 51; omega⟩ else .reg barS
abbrev kcell (ck : Dev nD × Fin 49) : GSem nD τ sig := ((ck.1 : Thread nD τ), ksem ck.2)

theorem ksem_dma (q : DmaSem sig) (h : 3 ≤ q.val) : ksem ⟨q.val - 3, by have : q.val < 51 := q.isLt; omega⟩ = .dma q := by
  unfold ksem
  have hq : q.val < 51 := q.isLt
  rw [dif_pos (by show q.val - 3 < 48; omega)]
  congr 1
  apply Fin.ext
  show 3 + (q.val - 3) = q.val
  omega
theorem ksem_bar : ksem 48 = .reg barS := rfl

/-- Cell `g`'s invariant, under some name, and its first round open. -/
def known (g : GSem nD τ sig) : sProp 𝕄 := iprop((∃ κ : ℕ, cellInv ER (Rd m ρ) κ g) ∗ reached ER g 0)
instance known_persistent (g : GSem nD τ sig) : BI.Persistent (known m ρ g) := by unfold known; infer_instance
def env : sProp 𝕄 := iprop((bigSep Finset.univ fun ck : Dev nD × Fin 49 => known m ρ (kcell ck)) ∗ levAts L lv)
instance env_persistent : BI.Persistent (env m ρ) := by unfold env; infer_instance

theorem env_lev : env m ρ ⊢ levAts L lv := by unfold env; iintro ⟨-, H⟩; iexact H
theorem known_at (c : Dev nD) (k : Fin 49) : (bigSep Finset.univ fun ck : Dev nD × Fin 49 => known m ρ (kcell ck)) ⊢ known m ρ (kcell (c, k)) :=
  bigSep_elim (Finset.mem_univ (c, k))
theorem env_dma (c : Dev nD) (q : DmaSem sig) (h : 3 ≤ q.val) : env m ρ ⊢ known m ρ ((c : Thread nD τ), .dma q) := by
  have e := ksem_dma q h
  rw [← e]
  unfold env
  iintro ⟨H, -⟩
  iapply (known_at m ρ c _)
  iexact H
theorem env_bar (c : Dev nD) : env m ρ ⊢ known m ρ (barC c) := by
  unfold env
  iintro ⟨H, -⟩
  iapply (show (bigSep Finset.univ fun ck : Dev nD × Fin 49 => known m ρ (kcell ck)) ⊢ known m ρ (kcell (c, (48 : Fin 49))) from bigSep_elim (Finset.mem_univ _))
  iexact H

theorem used_le {q : DmaSem sig} (h : used q = true) : 3 ≤ q.val := by unfold used at h; exact (of_decide_eq_true h).1

/-- A wait on `s` is allowed while `l` is owed: every cell in `l` is at a higher level. -/
def waitOk (s : SemLoc sig) (l : List (GSem nD τ sig × ℕ)) : Bool := l.all fun a => decide (a.1.1.2 = .tc) && decide (lvl s < lvl a.1.2)
theorem waitOk_iff {s : SemLoc sig} {l : List (GSem nD τ sig × ℕ)} (h : waitOk s l = true) : ∀ a ∈ l, a.1.1.2 = .tc ∧ lvl s < lvl a.1.2 := by
  intro a ha
  have := List.all_eq_true.mp h a ha
  rw [Bool.and_eq_true] at this
  exact ⟨of_decide_eq_true this.1, of_decide_eq_true this.2⟩

/-- What `c` still owes; which waits it has recorded does not matter. -/
def ow (c : Dev nD) (l : List (GSem nD τ sig × ℕ)) : sProp 𝕄 := iprop(∃ W : Waits sig Unit, owes (c : Thread nD τ) (owedL l) W)

abbrev 𝒱₀ : Variants := Variants.none
/-- The kernel's rest from here on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules
variable {α : Type}

/-! ## Signals and the wait on the barrier -/

theorem step_signal {Q : α → sProp 𝕄} (c n : Dev nD) (k' : ℤ) (hk' : k' = ((1 : ℕ) : ℤ)) (k : PUnit → Prog (TpuEff nD τ sig (Elt F) Λ₀ .tc) α) (d : Fin 3) (n' : Dev nD) (hn : n = n')
    (L' l : List (GSem nD τ sig × ℕ)) (hL : L' = (barC n', 1) :: l) :
    iprop(env m ρ ∗ ow c L' ∗ dutyTok ER (barC n') 0 d ∗ barPay d n')
      ⊢ iprop((ow c l -∗ run c (k ⟨⟩) Q) -∗ run c (.op (.semSignal (n : Thread nD τ) barS k') k) Q) := by
  subst hn; subst hk'; subst hL
  unfold ow
  iintro ⟨#He, ⟨%W, HO⟩, Ht, Hp⟩ Hk
  ihave Hb := (env_bar m ρ n) $$ He
  unfold known
  icases Hb with ⟨⟨%κ, #HI⟩, #Hr⟩
  iapply (Rounds.wp_signal 𝒱₀ ER (Rd m ρ) (c : Thread nD τ) none (dst := (n : Thread nD τ)) (κ := κ)
      (d := d) (by rw [duties_bar]; exact Finset.mem_univ _) (amount_bar m ρ n d) () (owedL l) rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

theorem step_barrier {Q : α → sProp 𝕄} (c : Dev nD) (k' : ℤ) (hk' : k' = ((3 : ℕ) : ℤ)) (k : PUnit → Prog (TpuEff nD τ sig (Elt F) Λ₀ .tc) α)
    (l : List (GSem nD τ sig × ℕ)) (hl : waitOk (.reg barS) l = true) :
    iprop(env m ρ ∗ ow c l ∗ atPos ER (barC c) 0 ∅ 0 ∗ cred (tallyAt (barC c) () 3))
      ⊢ iprop(((ow c l ∗ semVal (barC c) 0 ∗ pay0 c ∗ pay1 c ∗ pay2 c) -∗ run c (k ⟨⟩) Q) -∗ run c (.op (.semWait barS k') k) Q) := by
  subst hk'
  unfold ow
  iintro ⟨#He, ⟨%W, HO⟩, Hat, Hc⟩ Hk
  ihave Hb := (env_bar m ρ c) $$ He
  unfold known
  icases Hb with ⟨⟨%κ, #HI⟩, -⟩
  iapply (Rounds.wp_wait_rest_token 𝒱₀ ER (Rd m ρ) (c : Thread nD τ) none (κ := κ)
      (wpE_semWait_eq 𝒱₀ (c : Thread nD τ) none Set.univ) (Set.mem_univ _) () (O := owedL l) (W := W) (R := 0) (m := 0) (T := ∅)
      (by rw [expect_bar])) $$ [Hc HO Hat]
  · isplitr; · iexact HI
    isplitl [Hc]; · iexact Hc
    isplitl [HO]; · iexact HO
    isplitr
    · iapply (mayWait_of c (.reg barS) l (waitOk_iff hl)); iapply (env_lev m ρ); iexact He
    iexact Hat
  iintro ⟨HO, Hat, -, Hpay⟩
  ihave Hp := (Entails.of_eq (rest_bar m ρ c)) $$ Hpay
  imod (Rounds.cell_close ER (Rd m ρ) (Set.mem_univ κ) (fun h => h) (R := 0 + 1) (duties_later m ρ (barC c))) $$ [Hat] with Hz
  · isplitr; · iexact HI
    iexact Hat
  iapply Hk
  isplitl [HO]; · iexists _; iexact HO
  isplitl [Hz]; · iexact Hz
  iexact Hp

/-! ## Waits on the transfers' semaphores -/

theorem step_wait {Q : α → sProp 𝕄} (c : Dev nD) (q q' : DmaSem sig) (hq' : q' = q) (hq : used q = true) (N : ℕ)
    (hA : (Rd (F := F) m ρ).amount ((c : Thread nD τ), .dma q) 0 0 = N)
    {s s' : Shape} (src : Memref sig .tc .vmem s .f32) (dst : Memref sig .tc .vmem s' .f32) {hsrc : src.view.WordExact} {hdst : dst.view.WordExact}
    (hN : dst.view.dmaCredit = N) (k : PUnit → Prog (TpuEff nD τ sig (Elt F) Λ₀ .tc) α)
    (l : List (GSem nD τ sig × ℕ)) (hl : waitOk (.dma q) l = true) (P : sProp 𝕄)
    (hP : (Rd (F := F) m ρ).payload ((c : Thread nD τ), .dma q) 0 0 = P) :
    iprop(env m ρ ∗ ow c l ∗ atPos ER ((c : Thread nD τ), SemLoc.dma q) 0 ∅ 0 ∗ cred (tallyAt ((c : Thread nD τ), SemLoc.dma q) () N))
      ⊢ iprop(((ow c l ∗ semVal ((c : Thread nD τ), SemLoc.dma q) 0 ∗ P) -∗ run c (k ⟨⟩) Q) -∗ run c (.op (.waitDma2 q' src dst hsrc hdst) k) Q) := by
  subst hq'
  unfold ow
  iintro ⟨#He, ⟨%W, HO⟩, Hat, Hc⟩ Hk
  ihave Hb := (env_dma m ρ c q' (used_le hq)) $$ He
  unfold known
  icases Hb with ⟨⟨%κ, #HI⟩, -⟩
  iapply (Rounds.wp_wait_rest_token 𝒱₀ ER (Rd m ρ) (c : Thread nD τ) none (κ := κ)
      (wpE_waitDma2_eq 𝒱₀ (c : Thread nD τ) none Set.univ) (Set.mem_univ _) () (O := owedL l) (W := W) (R := 0) (m := 0) (T := ∅)
      (by rw [Nat.zero_add, hN, expect_dma m ρ c q' hq N hA])) $$ [Hc HO Hat]
  · isplitr; · iexact HI
    isplitl [Hc]; · rw [hN]; iexact Hc
    isplitl [HO]; · iexact HO
    isplitr
    · iapply (mayWait_of c (.dma q') l (waitOk_iff hl)); iapply (env_lev m ρ); iexact He
    iexact Hat
  iintro ⟨HO, Hat, -, Hpay⟩
  ihave Hp := (Entails.of_eq ((rest_dma m ρ c q' hq).trans hP)) $$ Hpay
  imod (Rounds.cell_close ER (Rd m ρ) (Set.mem_univ κ) (fun h => h) (R := 0 + 1) (duties_later m ρ ((c : Thread nD τ), .dma q'))) $$ [Hat] with Hz
  · isplitr; · iexact HI
    iexact Hat
  iapply Hk
  isplitl [HO]; · iexists _; iexact HO
  isplitl [Hz]; · iexact Hz
  iexact Hp

/-! ## Sends -/

theorem step_send {Q : α → sProp 𝕄} (c n n' : Dev nD) (hn : n = n') {s : Shape} (src : Memref sig .tc .vmem s .f32) (dst : Memref sig .tc .vmem s .f32) (sS sR : DmaSem sig)
    (hS : used sS = true) (hR : used sR = true) (N : ℕ)
    {hsc : (dst : Memref sig (Dev.tc n : Thread nD τ).2.kind .vmem s .f32).view.ref.isScScratch = false}
    {hsrc : src.view.WordExact} {hdst : (dst : Memref sig .tc .vmem s .f32).view.WordExact}
    {hsem : DmaTarget.Typed .vmem (.dma sR) (.remote (Dev.tc n : Thread nD τ) (dst : Memref sig .tc .vmem s .f32) (.dma sS) hsc)}
    (k : PUnit → Prog (TpuEff nD τ sig (Elt F) Λ₀ .tc) α) (q : PosShare TreeShare) (X : s.Idx → Elt F .f32)
    (hN : dst.view.amount (.dma sR) = N)
    (hAS : (Rd (F := F) m ρ).amount ((c : Thread nD τ), .dma sS) 0 0 = N) (hAR : (Rd (F := F) m ρ).amount ((n' : Thread nD τ), .dma sR) 0 0 = N)
    (hPS : own c src q X ⊢ (Rd (F := F) m ρ).payload ((c : Thread nD τ), .dma sS) 0 0)
    (hPR : own n' dst fullShare X ⊢ (Rd (F := F) m ρ).payload ((n' : Thread nD τ), .dma sR) 0 0)
    (L' l : List (GSem nD τ sig × ℕ)) (hL : L' = (((n' : Thread nD τ), SemLoc.dma sR), N) :: l) :
    iprop(env m ρ ∗ ow c L' ∗ dutyTok ER ((c : Thread nD τ), SemLoc.dma sS) 0 0
        ∗ dutyTok ER ((n' : Thread nD τ), SemLoc.dma sR) 0 0 ∗ own c src q X ∗ anyAt n' dst)
      ⊢ iprop(((ow c l ∗ cred (tallyAt ((c : Thread nD τ), SemLoc.dma sS) () N)) -∗ run c (k ⟨⟩) Q)
          -∗ run c (.op (.enqueueDma src (.remote (Dev.tc n : Thread nD τ) dst (.dma sS) hsc) (.dma sR) hsrc hdst hsem) k) Q) := by
  subst hn; subst hL
  unfold ow anyAt
  iintro ⟨#He, ⟨%W, HO⟩, HtS, HtR, Hs, ⟨%fd, Hd⟩⟩ Hk
  ihave Hb := (env_dma m ρ c sS (used_le hS)) $$ He
  ihave Hb' := (env_dma m ρ n sR (used_le hR)) $$ He
  unfold known own owns
  icases Hb with ⟨⟨%κ₁, #HI₁⟩, #Hr₁⟩
  icases Hb' with ⟨⟨%κ₂, #HI₂⟩, #Hr₂⟩
  icases Hs with ⟨%fs, %hfs, Hs⟩
  iapply (Rounds.wp_send_pointsTo 𝒱₀ ER (Rd m ρ) (c : Thread nD τ) none (κ₁ := κ₁) (κ₂ := κ₂) (r₁ := 0) (r₂ := 0) (d₁ := 0) (d₂ := 0) (fd := fd) (q := q) (fs := fs)
      (by rw [duties_dma m ρ c sS hS]; exact Finset.mem_singleton_self _) (by rw [duties_dma m ρ n sR hR]; exact Finset.mem_singleton_self _)
      () () N hN hAS hAR (owedL l) rfl (W := W)
      ((show _ ⊢ own c src q X from by rw [← hfs]; exact owns_intro (c : Thread nD τ) src q fs).trans hPS)
      ((show _ ⊢ own n dst fullShare X from by
        have e : dst.view.read (Elt F) (dst.view.write (Elt F) fd X Finset.univ) = X := View.read_write_univ ..
        rw [hfs]; exact (owns_intro (n : Thread nD τ) dst fullShare _).trans (Entails.of_eq (by rw [e]))).trans hPR)) $$ [HO HtS HtR Hs Hd]
  · isplitr; · iexact HI₁
    isplitr; · iexact HI₂
    isplitl [Hs]; · iexact Hs
    isplitl [Hd]; · iexact Hd
    isplitl [HO]; · iexact HO
    isplitl [HtS]; · iexact HtS
    isplitr; · iexact Hr₁
    isplitl [HtR]; · iexact HtR
    iexact Hr₂
  iintro ⟨Hc, HO⟩
  iapply Hk
  isplitl [HO]; · iexists _; iexact HO
  iexact Hc

end Rules

end Cert.RingProof

end
-- ==== Proof.Access.lean ====
/-
# Loads, stores and one product

The kernel reads its two staged operands whole, reads a landing slot, and writes a product slot or its own rows of the
result.
-/
module

public import proofs.«01_k».proof.Proof.Steps
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The sets the views reach -/

theorem wb_set (st : Fin 4) (s : Fin 2) : (bM.access (wbR st s)).set = (wb st s).view.set := by
  unfold wb; exact (View.set_reshape _ _).symm
theorem rb_set (k : Fin 12) : (rM.access (rbR k)).set = (rb k).view.set := by
  unfold rb; exact (View.set_reshape _ _).symm

theorem zero2 : (![0, 0] : Fin 2 → Nat) = fun _ => 0 := funext fun a => by fin_cases a <;> rfl

/-- The positive part of the product, as a product slot stores it, from a landing slot as loaded. -/
def prodS (x : Vec F S1024x4096 .f32) (v : Vec F S1x1x4096x128 .f32) : FVec F S1x1024x128 .f32 :=
  shapeCast S1x1024x128 (prod x (shapeCast S4096x128 v shapeCasts_S1x1x4096x128_S4096x128)) shapeCasts_S1024x128_S1x1024x128

theorem pay2_eq (x : Vec F S1024x4096 .f32) (v : Vec F S1x1x4096x128 .f32) : k0_pay2 x v = prodS x v := rfl
theorem pay3_eq (x : Vec F S1024x4096 .f32) (v : Vec F S1x1x4096x128 .f32) : k0_pay3 x v = prodS x v := rfl
theorem pay4_eq (x : Vec F S1024x4096 .f32) (v : Vec F S1x1x4096x128 .f32) : k0_pay4 x v = prodS x v := rfl
theorem pay5_eq (x : Vec F S1024x4096 .f32) (v : Vec F S1x1x4096x128 .f32) : k0_pay5 x v = prodS x v := rfl
theorem pay7_eq (x : Vec F S1024x4096 .f32) (v : Vec F S1x1x4096x128 .f32) : k0_pay7 (k0_pay6 x) v = prodS x v := rfl
theorem pay8_eq (x : Vec F S1024x4096 .f32) (v : Vec F S1x1x4096x128 .f32) : k0_pay8 x v = prodS x v := rfl
theorem pay9_eq (x : Vec F S1024x4096 .f32) (v : Vec F S1x1x4096x128 .f32) : k0_pay9 x v = prodS x v := rfl
theorem pay10_eq (x : Vec F S1024x4096 .f32) (v : Vec F S1x1x4096x128 .f32) : k0_pay10 x v = prodS x v := rfl

/-! ## Ownership, said of the whole buffer's location -/

theorem own_wb (c : Dev nD) (st : Fin 4) (s : Fin 2) (q : PosShare TreeShare) (W : Vec F S4096x128 .f32) : (own c (wb st s) q W : sProp 𝕄)
    = iprop(∃ f : Buf (Elt F) (bM.view.loc (c : Thread nD τ)), ⌜(wb st s).view.read (Elt F) f = W⌝ ∗ bM.view.loc (c : Thread nD τ) ↦[(wb st s).view.set]{q} f) := rfl
theorem any_rb (c : Dev nD) (i : Fin 12) : (anyAt c (rb i) : sProp 𝕄)
    = iprop(∃ f : Buf (Elt F) ((rM.access (rbR i)).loc (c : Thread nD τ)), (rM.access (rbR i)).loc (c : Thread nD τ) ↦[(rb i).view.set]{fullShare} f) := rfl
theorem any_rb' (c : Dev nD) (i : Fin 12) : (anyAt c (rb i) : sProp 𝕄)
    = iprop(∃ f : Buf (Elt F) (rM.view.loc (c : Thread nD τ)), rM.view.loc (c : Thread nD τ) ↦[(rb i).view.set]{fullShare} f) := rfl
theorem own_rb (c : Dev nD) (i : Fin 12) (W : Vec F S1024x128 .f32) : (own c (rb i) fullShare W : sProp 𝕄)
    = iprop(∃ f : Buf (Elt F) ((rM.access (rbR i)).loc (c : Thread nD τ)), ⌜(rb i).view.read (Elt F) f = W⌝
        ∗ (rM.access (rbR i)).loc (c : Thread nD τ) ↦[(rb i).view.set]{fullShare} f) := rfl
theorem any_oo (c : Dev nD) : (anyAt c (oo c) : sProp 𝕄)
    = iprop(∃ f : Buf (Elt F) ((oM.access (ooR c)).loc (c : Thread nD τ)), (oM.access (ooR c)).loc (c : Thread nD τ) ↦[(oo c).view.set]{fullShare} f) := rfl
theorem any_oo' (c : Dev nD) : (anyAt c (oo c) : sProp 𝕄)
    = iprop(∃ f : Buf (Elt F) (oM.view.loc (c : Thread nD τ)), oM.view.loc (c : Thread nD τ) ↦[(oo c).view.set]{fullShare} f) := rfl
theorem own_oo (c : Dev nD) (W : Vec F S1024x512 .f32) : (own c (oo c) fullShare W : sProp 𝕄)
    = iprop(∃ f : Buf (Elt F) ((oM.access (ooR c)).loc (c : Thread nD τ)), ⌜(oo c).view.read (Elt F) f = W⌝
        ∗ (oM.access (ooR c)).loc (c : Thread nD τ) ↦[(oo c).view.set]{fullShare} f) := rfl

theorem rb_read (i : Fin 12) (f : rM.view.ty.Contents (Elt F)) : (rb i).view.read (Elt F) f
    = shapeCast S1024x128 ((rM.access (rbR i)).read (Elt F) f) shapeCasts_S1x1024x128_S1024x128 := rfl

section Rules
variable {α : Type}

theorem step_load_x {Q : α → sProp 𝕄} (c : Dev nD) (q : PosShare TreeShare) (X : Vec F S1024x4096 .f32)
    (h : ∀ a, (![0, 0] : Fin 2 → Nat) a + S1024x4096.size a ≤ S1024x4096.size a)
    {hl : xM.view.LoadsAt (Rect.unit (s := S1024x4096) ![0, 0] S1024x4096.size h).toLoadRect}
    (k : Vec F S1024x4096 .f32 → Prog (TpuEff nD τ sig (Elt F) Λ₀ .tc) α) :
    own c xM q X ⊢ iprop((own c xM q X -∗ run c (k X) Q)
      -∗ run c (.op (.load xM (Rect.unit (s := S1024x4096) ![0, 0] S1024x4096.size h).toLoadRect hl) k) Q) := by
  unfold own owns
  iintro ⟨%f, %hf, Hx⟩ Hk
  have e : xM.view.readAt (Elt F) (Rect.unit (s := S1024x4096) ![0, 0] S1024x4096.size h).toLoadRect f = X :=
    (Memref.readAt_unit_zero (Elt F) cc0_stg0_0 zero2 h f).trans hf
  iapply (wp_load 𝒱₀ (c : Thread nD τ) none Set.univ (m := xM) (by rw [show xM.view.set = Finset.univ from View.set_whole _]; exact Finset.subset_univ _)) $$ Hx
  iintro Hx
  rw [e]
  iapply Hk
  iexists f; isplitr; · (ipureintro; exact hf)
  iexact Hx

theorem step_load_w {Q : α → sProp 𝕄} (c : Dev nD) (q : PosShare TreeShare) (X : Vec F S4096x512 .f32)
    (h : ∀ a, (![0, 0] : Fin 2 → Nat) a + S4096x512.size a ≤ S4096x512.size a)
    {hl : wM.view.LoadsAt (Rect.unit (s := S4096x512) ![0, 0] S4096x512.size h).toLoadRect}
    (k : Vec F S4096x512 .f32 → Prog (TpuEff nD τ sig (Elt F) Λ₀ .tc) α) :
    own c wM q X ⊢ iprop((own c wM q X -∗ run c (k X) Q)
      -∗ run c (.op (.load wM (Rect.unit (s := S4096x512) ![0, 0] S4096x512.size h).toLoadRect hl) k) Q) := by
  unfold own owns
  iintro ⟨%f, %hf, Hx⟩ Hk
  have e : wM.view.readAt (Elt F) (Rect.unit (s := S4096x512) ![0, 0] S4096x512.size h).toLoadRect f = X :=
    (Memref.readAt_unit_zero (Elt F) cc0_stg1_0 zero2 h f).trans hf
  iapply (wp_load 𝒱₀ (c : Thread nD τ) none Set.univ (m := wM) (by rw [show wM.view.set = Finset.univ from View.set_whole _]; exact Finset.subset_univ _)) $$ Hx
  iintro Hx
  rw [e]
  iapply Hk
  iexists f; isplitr; · (ipureintro; exact hf)
  iexact Hx

/-- A landing slot read through the ring's memref. -/
theorem step_load_wb {Q : α → sProp 𝕄} (c : Dev nD) (st : Fin 4) (s : Fin 2) (q : PosShare TreeShare) (W : Vec F S4096x128 .f32)
    (r : Rect S4x2x4096x128) (hr : r = wbR st s) {hl : bM.view.LoadsAt r.toLoadRect}
    (k : (r.shape.Idx → Elt F .f32) → Prog (TpuEff nD τ sig (Elt F) Λ₀ .tc) α) :
    own c (wb st s) q W ⊢ iprop((∀ v : Vec F S1x1x4096x128 .f32, ⌜shapeCast S4096x128 v shapeCasts_S1x1x4096x128_S4096x128 = W⌝ -∗ own c (wb st s) q W
        -∗ run c (k (hr ▸ v)) Q)
      -∗ run c (.op (.load bM r.toLoadRect hl) k) Q) := by
  subst hr
  rw [own_wb]
  iintro ⟨%f, %hf, Hx⟩ Hk
  iapply (wp_load 𝒱₀ (c : Thread nD τ) none Set.univ (m := bM) (r := (wbR st s).toLoadRect) (S := (wb st s).view.set) (f := f)
    (by rw [← wb_set, View.set_slice]; exact Finset.Subset.refl _)) $$ Hx
  iintro Hx
  iapply Hk $$ %(bM.view.readAt (Elt F) (wbR st s).toLoadRect f) []
  · ipureintro; exact hf
  iexists f; isplitr; · (ipureintro; exact hf)
  iexact Hx

theorem step_dead_rb {Q : α → sProp 𝕄} (c : Dev nD) (i : Fin 12) (r : Rect S12x1024x128) (hr : r = rbR i) {hl : rM.view.LoadsAt r.toLoadRect}
    (k : (r.shape.Idx → Elt F .f32) → Prog (TpuEff nD τ sig (Elt F) Λ₀ .tc) α) :
    anyAt c (rb i) ⊢ iprop((∀ v, anyAt c (rb i) -∗ run c (k v) Q) -∗ run c (.op (.load rM r.toLoadRect hl) k) Q) := by
  subst hr
  rw [any_rb']
  iintro ⟨%f, Hx⟩ Hk
  iapply (wp_load 𝒱₀ (c : Thread nD τ) none Set.univ (m := rM) (r := (rbR i).toLoadRect) (S := (rb i).view.set) (f := f)
    (by rw [← rb_set, View.set_slice]; exact Finset.Subset.refl _)) $$ Hx
  iintro Hx
  iapply Hk
  iexists f; iexact Hx

theorem step_store_rb {Q : α → sProp 𝕄} (c : Dev nD) (i : Fin 12) (w : FVec F S1x1024x128 .f32)
    {hx : (rM.access (rbR i)).Stores Finset.univ} {hm : (Finset.univ : Finset (rbR i).shape.Idx) = Finset.univ ∨ ∀ a, (rbR i).stride a = 1}
    (k : PUnit → Prog (TpuEff nD τ sig (Elt F) Λ₀ .tc) α) :
    anyAt c (rb i) ⊢ iprop((own c (rb i) fullShare (shapeCast S1024x128 w shapeCasts_S1x1024x128_S1024x128) -∗ run c (k ⟨⟩) Q)
      -∗ run c (.op (.store rM (rbR i) w Finset.univ hx hm) k) Q) := by
  rw [any_rb, own_rb]
  iintro ⟨%f, Hx⟩ Hk
  iapply (wp_store 𝒱₀ (c : Thread nD τ) none Set.univ (m := rM) (r := rbR i) (Mk := Finset.univ) (S := (rb i).view.set) (f := f)
    (by rw [← rb_set]; exact Finset.Subset.refl _)) $$ Hx
  iintro Hx
  iapply Hk
  iexists ((rM.access (rbR i)).write (Elt F) f w Finset.univ)
  isplitr
  · ipureintro
    rw [rb_read, View.read_write_univ]
  iexact Hx

/-- One product from a landing slot, stored in product slot `i`; the kernel also reads the slot it stores to. -/
theorem step_product {Q : α → sProp 𝕄} (c : Dev nD) (st : Fin 4) (s : Fin 2) (i : Fin 12) (q : PosShare TreeShare) (x : Vec F S1024x4096 .f32) (W : Vec F S4096x128 .f32)
    {hl : bM.view.LoadsAt (wbR st s).toLoadRect} {hl' : rM.view.LoadsAt (rbR i).toLoadRect}
    {hx : (rM.access (rbR i)).Stores Finset.univ} {hm : (Finset.univ : Finset (rbR i).shape.Idx) = Finset.univ ∨ ∀ a, (rbR i).stride a = 1}
    (pay : Vec F S1x1x4096x128 .f32 → FVec F S1x1024x128 .f32) (hpay : ∀ v, pay v = prodS x v)
    (k : PUnit → Prog (TpuEff nD τ sig (Elt F) Λ₀ .tc) α) :
    iprop(own c (wb st s) q W ∗ anyAt c (rb i)) ⊢ iprop(((own c (wb st s) q W ∗ own c (rb i) fullShare (prod x W)) -∗ run c (k ⟨⟩) Q)
      -∗ run c (.op (.load bM (wbR st s).toLoadRect hl) fun v => .op (.load rM (rbR i).toLoadRect hl') fun _ =>
          .op (.store rM (rbR i) (pay v) Finset.univ hx hm) k) Q) := by
  iintro ⟨Hw, Hr⟩ Hk
  iapply (step_load_wb c st s q W (wbR st s) rfl) $$ Hw
  iintro %v %hv Hw
  iapply (step_dead_rb c i (rbR i) rfl) $$ Hr
  iintro %v' Hr
  iapply (step_store_rb c i (pay v)) $$ Hr
  iintro Hr
  iapply Hk
  isplitl [Hw]; · iexact Hw
  rw [hpay v]
  unfold prodS
  rw [shapeCast_shapeCast, hv]
  iexact Hr

theorem step_dead_oo {Q : α → sProp 𝕄} (c : Dev nD) (r : Rect S4096x512) (hr : r = ooR c) {hl : oM.view.LoadsAt r.toLoadRect}
    (k : (r.shape.Idx → Elt F .f32) → Prog (TpuEff nD τ sig (Elt F) Λ₀ .tc) α) :
    anyAt c (oo c) ⊢ iprop((∀ v, anyAt c (oo c) -∗ run c (k v) Q) -∗ run c (.op (.load oM r.toLoadRect hl) k) Q) := by
  subst hr
  rw [any_oo']
  iintro ⟨%f, Hx⟩ Hk
  iapply (wp_load 𝒱₀ (c : Thread nD τ) none Set.univ (m := oM) (r := (ooR c).toLoadRect) (S := (oo c).view.set) (f := f)
    (by rw [show (oo c).view.set = (oM.access (ooR c)).set from rfl, View.set_slice]; exact Finset.Subset.refl _)) $$ Hx
  iintro Hx
  iapply Hk
  iexists f; iexact Hx

theorem step_store_oo {Q : α → sProp 𝕄} (c : Dev nD) (off : Fin 2 → ℕ) (ho : off = ![1024 * c.val, 0]) (p : ∀ a, off a + S1024x512.size a ≤ S4096x512.size a)
    (w : FVec F S1024x512 .f32)
    {hx : (oM.access (Rect.unit (s := S4096x512) off S1024x512.size p)).Stores Finset.univ}
    {hm : (Finset.univ : Finset (Rect.unit (s := S4096x512) off S1024x512.size p).shape.Idx) = Finset.univ ∨ ∀ a, (Rect.unit (s := S4096x512) off S1024x512.size p).stride a = 1}
    (k : PUnit → Prog (TpuEff nD τ sig (Elt F) Λ₀ .tc) α) :
    anyAt c (oo c) ⊢ iprop((own c (oo c) fullShare w -∗ run c (k ⟨⟩) Q)
      -∗ run c (.op (.store oM (Rect.unit (s := S4096x512) off S1024x512.size p) w Finset.univ hx hm) k) Q) := by
  subst ho
  rw [any_oo, own_oo]
  iintro ⟨%f, Hx⟩ Hk
  iapply (wp_store 𝒱₀ (c : Thread nD τ) none Set.univ (m := oM) (r := ooR c) (Mk := Finset.univ) (S := (oo c).view.set) (f := f)
    (Finset.Subset.refl _)) $$ Hx
  iintro Hx
  iapply Hk
  iexists ((oM.access (ooR c)).write (Elt F) f w Finset.univ)
  isplitr
  · ipureintro
    exact View.read_write_univ (v := oM.access (ooR c)) (Val := Elt F) f w
  iexact Hx

end Rules

end Cert.RingProof

end
-- ==== Proof.Stages.lean ====
/-
# The transfers, stage by stage

`R0 st h c` is what `c` holds for the ring copy of stream `st`, round `h`, once the barrier is passed; `R1` after the
copy is issued, `R2` after the wait for its end, `R3` after the wait for the one that arrives. `O0` to `O3` are the same
for the copy of a product into the result of another device, where the wait for the arrival comes first.
-/
module

public import proofs.«01_k».proof.Proof.Access

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

/-- What is still owed after the first `k` payments. -/
def du (c : Dev nD) (k : ℕ) : List (GSem nD τ sig × ℕ) := (dues c).drop k

/-- The ghost state of a ring copy, before the barrier. -/
def Rg (st : Fin 4) (h : Fin 2) (c : Dev nD) : sProp 𝕄 :=
  iprop(atPos ER (rsC st h c) 0 ∅ 0 ∗ atPos ER (rvC st h c) 0 ∅ 0 ∗ dutyTok ER (rsC st h c) 0 0 ∗ dutyTok ER (rvC st h (ringTo st c)) 0 0
    ∗ cred (tallyAt (rvC st h c) () NR))
def R0 (st : Fin 4) (h : Fin 2) (c : Dev nD) : sProp 𝕄 := iprop(Rg st h c ∗ anyAt (F := F) (ringTo st c) (wb st h))
def R1 (st : Fin 4) (h : Fin 2) (c : Dev nD) : sProp 𝕄 :=
  iprop(atPos ER (rsC st h c) 0 ∅ 0 ∗ atPos ER (rvC st h c) 0 ∅ 0 ∗ cred (tallyAt (rsC st h c) () NR) ∗ cred (tallyAt (rvC st h c) () NR))
def R2 (st : Fin 4) (h : Fin 2) (c : Dev nD) : sProp 𝕄 :=
  iprop(semVal (rsC st h c) 0 ∗ atPos ER (rvC st h c) 0 ∅ 0 ∗ cred (tallyAt (rvC st h c) () NR))
def R3 (st : Fin 4) (h : Fin 2) (c : Dev nD) : sProp 𝕄 := iprop(semVal (rsC st h c) 0 ∗ semVal (rvC st h c) 0)

def Og (st : Fin 4) (h : Fin 2) (c : Dev nD) : sProp 𝕄 :=
  iprop(atPos ER (osC st h c) 0 ∅ 0 ∗ atPos ER (ovC st h c) 0 ∅ 0 ∗ dutyTok ER (osC st h c) 0 0 ∗ dutyTok ER (ovC st h (origin st h c)) 0 0
    ∗ cred (tallyAt (ovC st h c) () NO))
def O0 (st : Fin 4) (h : Fin 2) (c : Dev nD) : sProp 𝕄 := iprop(Og st h c ∗ anyAt (F := F) (origin st h c) (ob c st))
def O1 (st : Fin 4) (h : Fin 2) (c : Dev nD) : sProp 𝕄 :=
  iprop(atPos ER (osC st h c) 0 ∅ 0 ∗ atPos ER (ovC st h c) 0 ∅ 0 ∗ cred (tallyAt (osC st h c) () NO) ∗ cred (tallyAt (ovC st h c) () NO))
def O2 (st : Fin 4) (h : Fin 2) (c : Dev nD) : sProp 𝕄 :=
  iprop(atPos ER (osC st h c) 0 ∅ 0 ∗ cred (tallyAt (osC st h c) () NO) ∗ semVal (ovC st h c) 0)
def O3 (st : Fin 4) (h : Fin 2) (c : Dev nD) : sProp 𝕄 := iprop(semVal (osC st h c) 0 ∗ semVal (ovC st h c) 0)

section Rules
variable {α : Type}

theorem amount_rs (st : Fin 4) (h : Fin 2) (c : Dev nD) (k : Fin 3) : (Rd (F := F) m ρ).amount (rsC st h c) 0 k = NR :=
  amount_R m ρ c _ (by rw [arr_rs]; decide) k
theorem amount_rv (st : Fin 4) (h : Fin 2) (c : Dev nD) (k : Fin 3) : (Rd (F := F) m ρ).amount (rvC st h c) 0 k = NR :=
  amount_R m ρ c _ (by rw [arr_rv]; decide) k
theorem amount_os (st : Fin 4) (h : Fin 2) (c : Dev nD) (k : Fin 3) : (Rd (F := F) m ρ).amount (osC st h c) 0 k = NO :=
  amount_O m ρ c _ (by rw [arr_os]; decide) k
theorem amount_ov (st : Fin 4) (h : Fin 2) (c : Dev nD) (k : Fin 3) : (Rd (F := F) m ρ).amount (ovC st h c) 0 k = NO :=
  amount_O m ρ c _ (by rw [arr_ov]; decide) k

/-- A ring copy, from `src` holding `X` at half its share. -/
theorem ring_send {Q : α → sProp 𝕄} (st : Fin 4) (h : Fin 2) (c n : Dev nD) (hn : n = ringTo st c) (src dst : Memref sig .tc .vmem S4096x128 .f32) (sS sR : DmaSem sig)
    (hd : dst = wb st h) (hS : sS = rsS st h) (hR : sR = rvS st h) (X : Vec F S4096x128 .f32)
    (hPS : own c src fullShare.left X ⊢ rsPay m ρ st h c) (hX : X = wcol m ρ st (origin st h (ringTo st c)))
    {hsc : (dst : Memref sig (Dev.tc n : Thread nD τ).2.kind .vmem S4096x128 .f32).view.ref.isScScratch = false}
    {hsrc : src.view.WordExact} {hdst : (dst : Memref sig .tc .vmem S4096x128 .f32).view.WordExact}
    {hsem : DmaTarget.Typed .vmem (.dma sR) (.remote (Dev.tc n : Thread nD τ) (dst : Memref sig .tc .vmem S4096x128 .f32) (.dma sS) hsc)}
    (k : PUnit → Prog (TpuEff nD τ sig (Elt F) Λ₀ .tc) α)
    (L' l : List (GSem nD τ sig × ℕ)) (hL : L' = (rvC st h (ringTo st c), NR) :: l) :
    iprop(env m ρ ∗ ow c L' ∗ R0 st h c ∗ own c src fullShare.left X)
      ⊢ iprop(((ow c l ∗ R1 st h c) -∗ run c (k ⟨⟩) Q)
          -∗ run c (.op (.enqueueDma src (.remote (Dev.tc n : Thread nD τ) dst (.dma sS) hsc) (.dma sR) hsrc hdst hsem) k) Q) := by
  subst hd hS hR hX
  unfold R0 Rg
  iintro ⟨#He, HO, ⟨⟨Ha, Hb, Ht, Ht', Hc⟩, Hd⟩, Hs⟩ Hk
  iapply (step_send m ρ c n (ringTo st c) hn src (wb st h) (rsS st h) (rvS st h) (used_rs st h) (used_rv st h) NR k fullShare.left
    (wcol m ρ st (origin st h (ringTo st c))) rfl (amount_rs m ρ st h c 0) (amount_rv m ρ st h (ringTo st c) 0)
    (by rw [payload_rs]; exact hPS) (by rw [payload_rv]; exact Entails.refl _) L' l hL) $$ [HO Ht Ht' Hs Hd]
  · isplitr; · iexact He
    isplitl [HO]; · iexact HO
    isplitl [Ht]; · iexact Ht
    isplitl [Ht']; · iexact Ht'
    isplitl [Hs]; · iexact Hs
    iexact Hd
  iintro ⟨HO, Hc'⟩
  iapply Hk
  unfold R1
  isplitl [HO]; · iexact HO
  isplitl [Ha]; · iexact Ha
  isplitl [Hb]; · iexact Hb
  isplitl [Hc'] <;> iassumption

theorem ring_wait_send {Q : α → sProp 𝕄} (st : Fin 4) (h : Fin 2) (c : Dev nD) (q : DmaSem sig) (hq : q = rsS st h)
    {s : Shape} (src : Memref sig .tc .vmem s .f32) (dst : Memref sig .tc .vmem S4096x128 .f32) {hsrc : src.view.WordExact} {hdst : dst.view.WordExact}
    (k : PUnit → Prog (TpuEff nD τ sig (Elt F) Λ₀ .tc) α)
    (l : List (GSem nD τ sig × ℕ)) (hl : waitOk (.dma (rsS st h)) l = true) :
    iprop(env m ρ ∗ ow c l ∗ R1 st h c)
      ⊢ iprop(((ow c l ∗ R2 st h c ∗ rsPay m ρ st h c) -∗ run c (k ⟨⟩) Q) -∗ run c (.op (.waitDma2 q src dst hsrc hdst) k) Q) := by
  unfold R1
  iintro ⟨#He, HO, Ha, Hb, Hc, Hc'⟩ Hk
  iapply (step_wait m ρ c (rsS st h) q hq (used_rs st h) NR (amount_rs m ρ st h c 0) src dst rfl k l hl _ (payload_rs m ρ c st h 0)) $$ [HO Ha Hc]
  · isplitr; · iexact He
    isplitl [HO]; · iexact HO
    isplitl [Ha] <;> iassumption
  iintro ⟨HO, Hz, Hp⟩
  iapply Hk
  unfold R2
  isplitl [HO]; · iexact HO
  isplitr [Hp]
  · isplitl [Hz]; · iexact Hz
    isplitl [Hb] <;> iassumption
  iexact Hp

theorem ring_wait_recv {Q : α → sProp 𝕄} (st : Fin 4) (h : Fin 2) (c : Dev nD) (q : DmaSem sig) (hq : q = rvS st h)
    {s : Shape} (src : Memref sig .tc .vmem s .f32) (dst : Memref sig .tc .vmem S4096x128 .f32) {hsrc : src.view.WordExact} {hdst : dst.view.WordExact}
    (k : PUnit → Prog (TpuEff nD τ sig (Elt F) Λ₀ .tc) α)
    (l : List (GSem nD τ sig × ℕ)) (hl : waitOk (.dma (rvS st h)) l = true) :
    iprop(env m ρ ∗ ow c l ∗ R2 st h c)
      ⊢ iprop(((ow c l ∗ R3 st h c ∗ rvPay m ρ st h c) -∗ run c (k ⟨⟩) Q) -∗ run c (.op (.waitDma2 q src dst hsrc hdst) k) Q) := by
  unfold R2
  iintro ⟨#He, HO, Hz', Hb, Hc⟩ Hk
  iapply (step_wait m ρ c (rvS st h) q hq (used_rv st h) NR (amount_rv m ρ st h c 0) src dst rfl k l hl _ (payload_rv m ρ c st h 0)) $$ [HO Hb Hc]
  · isplitr; · iexact He
    isplitl [HO]; · iexact HO
    isplitl [Hb] <;> iassumption
  iintro ⟨HO, Hz, Hp⟩
  iapply Hk
  unfold R3
  isplitl [HO]; · iexact HO
  isplitr [Hp]
  · isplitl [Hz'] <;> iassumption
  iexact Hp

/-- The copy of a product into the result of the device that its columns belong to. -/
theorem res_send {Q : α → sProp 𝕄} (st : Fin 4) (h : Fin 2) (c n : Dev nD) (hn : n = origin st h c) (src dst : Memref sig .tc .vmem S1024x128 .f32) (sS sR : DmaSem sig)
    (hs : src = rb (slot st h)) (hd : dst = ob c st) (hS : sS = osS st h) (hR : sR = ovS st h)
    {hsc : (dst : Memref sig (Dev.tc n : Thread nD τ).2.kind .vmem S1024x128 .f32).view.ref.isScScratch = false}
    {hsrc : src.view.WordExact} {hdst : (dst : Memref sig .tc .vmem S1024x128 .f32).view.WordExact}
    {hsem : DmaTarget.Typed .vmem (.dma sR) (.remote (Dev.tc n : Thread nD τ) (dst : Memref sig .tc .vmem S1024x128 .f32) (.dma sS) hsc)}
    (k : PUnit → Prog (TpuEff nD τ sig (Elt F) Λ₀ .tc) α)
    (L' l : List (GSem nD τ sig × ℕ)) (hL : L' = (ovC st h (origin st h c), NO) :: l) :
    iprop(env m ρ ∗ ow c L' ∗ O0 st h c ∗ own c (rb (slot st h)) fullShare (pv m ρ st h c))
      ⊢ iprop(((ow c l ∗ O1 st h c) -∗ run c (k ⟨⟩) Q)
          -∗ run c (.op (.enqueueDma src (.remote (Dev.tc n : Thread nD τ) dst (.dma sS) hsc) (.dma sR) hsrc hdst hsem) k) Q) := by
  subst hs hd hS hR
  unfold O0 Og
  iintro ⟨#He, HO, ⟨⟨Ha, Hb, Ht, Ht', Hc⟩, Hd⟩, Hs⟩ Hk
  iapply (step_send m ρ c n (origin st h c) hn (rb (slot st h)) (ob c st) (osS st h) (ovS st h) (used_os st h) (used_ov st h) NO k fullShare
    (pv m ρ st h c) rfl (amount_os m ρ st h c 0) (amount_ov m ρ st h (origin st h c) 0)
    (by rw [payload_os]; exact Entails.refl _) (by rw [payload_ov]; unfold ovPay; rw [owner_origin]) L' l hL) $$ [HO Ht Ht' Hs Hd]
  · isplitr; · iexact He
    isplitl [HO]; · iexact HO
    isplitl [Ht]; · iexact Ht
    isplitl [Ht']; · iexact Ht'
    isplitl [Hs]; · iexact Hs
    iexact Hd
  iintro ⟨HO, Hc'⟩
  iapply Hk
  unfold O1
  isplitl [HO]; · iexact HO
  isplitl [Ha]; · iexact Ha
  isplitl [Hb]; · iexact Hb
  isplitl [Hc'] <;> iassumption

theorem res_wait_recv {Q : α → sProp 𝕄} (st : Fin 4) (h : Fin 2) (c : Dev nD) (q : DmaSem sig) (hq : q = ovS st h)
    {s : Shape} (src : Memref sig .tc .vmem s .f32) (dst : Memref sig .tc .vmem S1024x128 .f32) {hsrc : src.view.WordExact} {hdst : dst.view.WordExact}
    (k : PUnit → Prog (TpuEff nD τ sig (Elt F) Λ₀ .tc) α)
    (l : List (GSem nD τ sig × ℕ)) (hl : waitOk (.dma (ovS st h)) l = true) :
    iprop(env m ρ ∗ ow c l ∗ O1 st h c)
      ⊢ iprop(((ow c l ∗ O2 st h c ∗ ovPay m ρ st h c) -∗ run c (k ⟨⟩) Q) -∗ run c (.op (.waitDma2 q src dst hsrc hdst) k) Q) := by
  unfold O1
  iintro ⟨#He, HO, Ha, Hb, Hc, Hc'⟩ Hk
  iapply (step_wait m ρ c (ovS st h) q hq (used_ov st h) NO (amount_ov m ρ st h c 0) src dst rfl k l hl _ (payload_ov m ρ c st h 0)) $$ [HO Hb Hc']
  · isplitr; · iexact He
    isplitl [HO]; · iexact HO
    isplitl [Hb] <;> iassumption
  iintro ⟨HO, Hz, Hp⟩
  iapply Hk
  unfold O2
  isplitl [HO]; · iexact HO
  isplitr [Hp]
  · isplitl [Ha]; · iexact Ha
    isplitl [Hc] <;> iassumption
  iexact Hp

theorem res_wait_send {Q : α → sProp 𝕄} (st : Fin 4) (h : Fin 2) (c : Dev nD) (q : DmaSem sig) (hq : q = osS st h)
    {s : Shape} (src : Memref sig .tc .vmem s .f32) (dst : Memref sig .tc .vmem S1024x128 .f32) {hsrc : src.view.WordExact} {hdst : dst.view.WordExact}
    (k : PUnit → Prog (TpuEff nD τ sig (Elt F) Λ₀ .tc) α)
    (l : List (GSem nD τ sig × ℕ)) (hl : waitOk (.dma (osS st h)) l = true) :
    iprop(env m ρ ∗ ow c l ∗ O2 st h c)
      ⊢ iprop(((ow c l ∗ O3 st h c ∗ anyAt c (rb (slot st h))) -∗ run c (k ⟨⟩) Q) -∗ run c (.op (.waitDma2 q src dst hsrc hdst) k) Q) := by
  unfold O2
  iintro ⟨#He, HO, Ha, Hc, Hz'⟩ Hk
  iapply (step_wait m ρ c (osS st h) q hq (used_os st h) NO (amount_os m ρ st h c 0) src dst rfl k l hl _ (payload_os m ρ c st h 0)) $$ [HO Ha Hc]
  · isplitr; · iexact He
    isplitl [HO]; · iexact HO
    isplitl [Ha] <;> iassumption
  iintro ⟨HO, Hz, Hp⟩
  iapply Hk
  unfold O3 osPay
  isplitl [HO]; · iexact HO
  isplitr [Hp]
  · isplitl [Hz] <;> iassumption
  iapply (any_of_own c (rb (slot st h))); iexact Hp

theorem rsPay_0 (st : Fin 4) (d : Dev nD) : rsPay m ρ st 0 d = own d (wc st) fullShare.left (wcol m ρ st d) := rfl
theorem rsPay_1 (st : Fin 4) (d : Dev nD) : rsPay m ρ st 1 d = own d (wb st 0) fullShare.left (wcol m ρ st (origin st 0 d)) := rfl
theorem rvPay_1 (st : Fin 4) (d : Dev nD) : rvPay m ρ st 1 d = own d (wb st 1) fullShare (wcol m ρ st (origin st 1 d)) := rfl
/-- What arrived in the first landing slot, cut in halves: one goes along with the next copy, one is read. -/
theorem rvPay_halves (st : Fin 4) (d : Dev nD) : rvPay m ρ st 0 d
    ⊢ iprop(own d (wb st 0) fullShare.left (wcol m ρ st (origin st 0 d)) ∗ own d (wb st 0) fullShare.right (wcol m ρ st (origin st 0 d))) := by
  unfold rvPay
  exact (owns_halves (d : Thread nD τ) (wb st 0) fullShare (wcol m ρ st (origin st 0 d))).1

theorem run_ret {Q : α → sProp 𝕄} (c : Dev nD) (a : α) : Q a ⊢ run c (.ret a) Q := by
  unfold run
  iintro H
  rw [wp_ret]; imodintro; iexact H
theorem run_deviceId {Q : α → sProp 𝕄} (c : Dev nD) (k : Dev nD → Prog (TpuEff nD τ sig (Elt F) Λ₀ .tc) α) :
    run c (k c) Q ⊢ run c (.op .deviceId k) Q := by
  unfold run
  rw [wp_deviceId]
theorem run_bind {β : Type} {Q : β → sProp 𝕄} (c : Dev nD) (p : Prog (TpuEff nD τ sig (Elt F) Λ₀ .tc) α) (k : α → Prog (TpuEff nD τ sig (Elt F) Λ₀ .tc) β) :
    run c p (fun a => run c (k a) Q) ⊢ run c (p >>= k) Q := by
  unfold run
  rw [wp_bind]

end Rules

end Cert.RingProof

end
-- ==== Proof.Parts0.lean ====
/-
# The first part, the entry barrier, and the barrier's payloads
-/
module

public import proofs.«01_k».proof.Proof.Stages

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000

/-- The ghost state of the sixteen copies, before the barrier. -/
def Gs (c : Dev nD) : sProp 𝕄 := iprop(Rg 0 0 c ∗ Rg 0 1 c ∗ Rg 1 0 c ∗ Rg 1 1 c ∗ Rg 2 0 c ∗ Rg 2 1 c ∗ Rg 3 0 c ∗ Rg 3 1 c
    ∗ Og 0 0 c ∗ Og 0 1 c ∗ Og 1 0 c ∗ Og 1 1 c ∗ Og 2 0 c ∗ Og 2 1 c ∗ Og 3 0 c ∗ Og 3 1 c)
/-- The same with the destinations that the barrier brings. -/
def Ds (c : Dev nD) : sProp 𝕄 := iprop(R0 0 0 c ∗ R0 0 1 c ∗ R0 1 0 c ∗ R0 1 1 c ∗ R0 2 0 c ∗ R0 2 1 c ∗ R0 3 0 c ∗ R0 3 1 c
    ∗ O0 0 0 c ∗ O0 0 1 c ∗ O0 1 0 c ∗ O0 1 1 c ∗ O0 2 0 c ∗ O0 2 1 c ∗ O0 3 0 c ∗ O0 3 1 c)
/-- The barrier's ghost state: the position at the own cell, the three duties at the others' cells, the wait's credit. -/
def Bs (c : Dev nD) : sProp 𝕄 := iprop(atPos ER (barC c) 0 ∅ 0 ∗ cred (tallyAt (barC c) () 3)
  ∗ dutyTok ER (barC (sh 3 c)) 0 0 ∗ dutyTok ER (barC (sh 1 c)) 0 1 ∗ dutyTok ER (barC (sh 2 c)) 0 2)

/-- The barrier's three payloads are the destinations of the sixteen copies. -/
theorem spread (c : Dev nD) : iprop(pay0 (F := F) c ∗ pay1 (F := F) c ∗ pay2 (F := F) c ∗ Gs c) ⊢ (Ds c : sProp 𝕄) := by
  unfold pay0 pay1 pay2 Gs Ds
  iintro ⟨⟨a00, a01, a10, a11, b20, b30⟩, ⟨a20, a21, a30, a31, b00, b10⟩, ⟨b01, b11, b21, b31⟩, gR00, gR01, gR10, gR11, gR20, gR21, gR30, gR31, gS00, gS01, gS10, gS11, gS20, gS21, gS30, gS31⟩
  isplitl [gR00 a00]
  · unfold R0; isplitl [gR00]; · iexact gR00
    iexact a00
  isplitl [gR01 a01]
  · unfold R0; isplitl [gR01]; · iexact gR01
    iexact a01
  isplitl [gR10 a10]
  · unfold R0; isplitl [gR10]; · iexact gR10
    iexact a10
  isplitl [gR11 a11]
  · unfold R0; isplitl [gR11]; · iexact gR11
    iexact a11
  isplitl [gR20 a20]
  · unfold R0; isplitl [gR20]; · iexact gR20
    iexact a20
  isplitl [gR21 a21]
  · unfold R0; isplitl [gR21]; · iexact gR21
    iexact a21
  isplitl [gR30 a30]
  · unfold R0; isplitl [gR30]; · iexact gR30
    iexact a30
  isplitl [gR31 a31]
  · unfold R0; isplitl [gR31]; · iexact gR31
    iexact a31
  isplitl [gS00 b00]
  · unfold O0; isplitl [gS00]; · iexact gS00
    iexact b00
  isplitl [gS01 b01]
  · unfold O0; isplitl [gS01]; · iexact gS01
    iexact b01
  isplitl [gS10 b10]
  · unfold O0; isplitl [gS10]; · iexact gS10
    iexact b10
  isplitl [gS11 b11]
  · unfold O0; isplitl [gS11]; · iexact gS11
    iexact b11
  isplitl [gS20 b20]
  · unfold O0; isplitl [gS20]; · iexact gS20
    iexact b20
  isplitl [gS21 b21]
  · unfold O0; isplitl [gS21]; · iexact gS21
    iexact b21
  isplitl [gS30 b30]
  · unfold O0; isplitl [gS30]; · iexact gS30
    iexact b30
  unfold O0; isplitl [gS31]; · iexact gS31
  iexact b31

theorem part1 {Q : (Σ' (d0 : Dev nD) (v2 : BitVec 32) (v13 : BitVec 32) (v25 : BitVec 32) (v28 : BitVec 32) (v29 : BitVec 32), BitVec 1) → sProp 𝕄} (c : Dev nD) :
    iprop(∀ a b d e f g, Q ⟨c, a, b, d, e, f, g⟩)
    ⊢ run c (k0_part1 (F := F) xM (Memref.isWhole_whole _) wM (Memref.isWhole_whole _) oM (Memref.isWhole_whole _) bM (Memref.isWhole_whole _) rM (Memref.isWhole_whole _)
      cc0_scratch2 cc0_scratch3 cc0_scratch4 cc0_scratch5) Q := by
  simp only [k0_part1_eq_skeleton]; unfold k0_part1_skel
  simp only [Prog.lift, Prog.bind_op, Prog.bind_ret, Prog.pure_eq_ret, Prog.bind_assoc]
  iintro Hk
  iapply (run_deviceId c)
  iapply (run_ret c)
  iapply Hk

theorem part2 {Q : PUnit → sProp 𝕄} (c : Dev nD) (v13 v25 v28 v29 : BitVec 32) (v34 : BitVec 1) :
    iprop(env m ρ ∗ ow c (du c 0) ∗ Bs c ∗ Gs c ∗ barPay 0 (sh 3 c) ∗ barPay 1 (sh 1 c) ∗ barPay 2 (sh 2 c)
      ∗ own c (wc 0) fullShare.left (wcol m ρ 0 c)
      ∗ ((ow c (du c 4) ∗ semVal (barC c) 0 ∗ R1 0 0 c ∗ R0 0 1 c ∗ R0 1 0 c ∗ R0 1 1 c ∗ R0 2 0 c ∗ R0 2 1 c ∗ R0 3 0 c ∗ R0 3 1 c
          ∗ O0 0 0 c ∗ O0 0 1 c ∗ O0 1 0 c ∗ O0 1 1 c ∗ O0 2 0 c ∗ O0 2 1 c ∗ O0 3 0 c ∗ O0 3 1 c)
        -∗ ∀ v, Q v))
    ⊢ run c (k0_part2 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v13 v25 v28 v29 v34) Q := by
  simp only [k0_part2_eq_skeleton]; unfold k0_part2_skel
  simp only [semSignalWord, semWaitWord, Prog.lift, Prog.bind_op, Prog.bind_ret, Prog.pure_eq_ret, Prog.bind_assoc]
  unfold Bs
  iintro ⟨#He, HO, ⟨Hat, Hc, Ht0, Ht1, Ht2⟩, HG, Hp0, Hp1, Hp2, HC0, Hk⟩
  iapply (step_signal m ρ c _ _ rfl _ 0 (sh 3 c) (dev1_eq c) (du c 0) (du c 1) rfl) $$ [HO Ht0 Hp0]
  · isplitr; · iexact He
    isplitl [HO]; · iexact HO
    isplitl [Ht0] <;> iassumption
  iintro HO
  iapply (step_signal m ρ c _ _ rfl _ 1 (sh 1 c) (dev2_eq c) (du c 1) (du c 2) rfl) $$ [HO Ht1 Hp1]
  · isplitr; · iexact He
    isplitl [HO]; · iexact HO
    isplitl [Ht1] <;> iassumption
  iintro HO
  iapply (step_signal m ρ c _ _ rfl _ 2 (sh 2 c) (dev3_eq c) (du c 2) (du c 3) rfl) $$ [HO Ht2 Hp2]
  · isplitr; · iexact He
    isplitl [HO]; · iexact HO
    isplitl [Ht2] <;> iassumption
  iintro HO
  iapply (step_barrier m ρ c _ rfl _ (du c 3) rfl) $$ [HO Hat Hc]
  · isplitr; · iexact He
    isplitl [HO]; · iexact HO
    isplitl [Hat] <;> iassumption
  iintro ⟨HO, Hz, Hp0, Hp1, Hp2⟩
  ihave HD := (spread c) $$ [Hp0 Hp1 Hp2 HG]
  · isplitl [Hp0]; · iexact Hp0
    isplitl [Hp1]; · iexact Hp1
    isplitl [Hp2] <;> iassumption
  ihave HD2 := (Entails.of_eq (show (Ds c : sProp 𝕄) = iprop(R0 0 0 c ∗ R0 0 1 c ∗ R0 1 0 c ∗ R0 1 1 c ∗ R0 2 0 c ∗ R0 2 1 c ∗ R0 3 0 c ∗ R0 3 1 c
    ∗ O0 0 0 c ∗ O0 0 1 c ∗ O0 1 0 c ∗ O0 1 1 c ∗ O0 2 0 c ∗ O0 2 1 c ∗ O0 3 0 c ∗ O0 3 1 c) from rfl)) $$ HD
  icases HD2 with ⟨HR00, HR01, HR10, HR11, HR20, HR21, HR30, HR31, HS00, HS01, HS10, HS11, HS20, HS21, HS30, HS31⟩
  iapply (ring_send m ρ 0 0 c _ (dev4_eq c) _ _ _ _ rfl rfl rfl (wcol m ρ 0 c) (Entails.of_eq (rsPay_0 m ρ 0 c).symm)
    (by rw [origin_ringTo_0]) _ (du c 3) (du c 4) rfl) $$ [HO HR00 HC0]
  · isplitr; · iexact He
    isplitl [HO]; · iexact HO
    isplitl [HR00]; · iexact HR00
    iexact HC0
  iintro ⟨HO, HR00⟩
  iapply (run_ret c)
  iapply Hk $$ [HO Hz HR00 HR01 HR10 HR11 HR20 HR21 HR30 HR31 HS00 HS01 HS10 HS11 HS20 HS21 HS30 HS31]
  isplitl [HO]; · iexact HO
  isplitl [Hz]; · iexact Hz
  isplitl [HR00]; · iexact HR00
  isplitl [HR01]; · iexact HR01
  isplitl [HR10]; · iexact HR10
  isplitl [HR11]; · iexact HR11
  isplitl [HR20]; · iexact HR20
  isplitl [HR21]; · iexact HR21
  isplitl [HR30]; · iexact HR30
  isplitl [HR31]; · iexact HR31
  isplitl [HS00]; · iexact HS00
  isplitl [HS01]; · iexact HS01
  isplitl [HS10]; · iexact HS10
  isplitl [HS11]; · iexact HS11
  isplitl [HS20]; · iexact HS20
  isplitl [HS21]; · iexact HS21
  isplitl [HS30]; · iexact HS30
  iexact HS31

end Cert.RingProof

end
-- ==== Proof.Parts1.lean ====
/-
# The kernel's parts 3 to 10

Each part of the body at a symbolic device: what it takes of the device's resources, and what it leaves.
-/
module

public import proofs.«01_k».proof.Proof.Stages

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000

theorem part3 {Q : (FVec F S1024x512 .f32) → sProp 𝕄} (c : Dev nD) (v2 : BitVec 32) (v25 : BitVec 32) :
    iprop(env m ρ ∗ ow c (du c 4)
      ∗ R0 1 0 c
      ∗ own c (wc 1) fullShare.left (wcol m ρ 1 c)
      ∗ R0 2 0 c
      ∗ own c (wc 2) fullShare.left (wcol m ρ 2 c)
      ∗ R0 3 0 c
      ∗ own c (wc 3) fullShare.left (wcol m ρ 3 c)
      ∗ own c xM fullShare (xv m ρ c)
      ∗ own c wM fullShare.right (wv m ρ c)
      ∗ ((ow c (du c 7)
          ∗ R1 1 0 c
          ∗ R1 2 0 c
          ∗ R1 3 0 c
          ∗ own c xM fullShare (xv m ρ c)
          ∗ own c wM fullShare.right (wv m ρ c))
          -∗ Q (k0_pay1 (xv m ρ c) (wv m ρ c))))
    ⊢ run c (k0_part3 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v25) Q := by
  simp only [k0_part3_eq_skeleton]; unfold k0_part3_skel
  simp only [Prog.lift, Prog.bind_op, Prog.bind_ret, Prog.pure_eq_ret, Prog.bind_assoc]
  iintro ⟨#He, HO, HR10, HC1, HR20, HC2, HR30, HC3, HX, HW, Hk⟩
  iapply (ring_send m ρ 1 0 c _ (dev5_eq c) _ _ _ _ rfl rfl rfl (wcol m ρ 1 c) (Entails.of_eq (rsPay_0 m ρ 1 c).symm)
    (by rw [origin_ringTo_0]) _ (du c 4) (du c 5) rfl) $$ [HO HR10 HC1]
  · isplitr; · iexact He
    isplitl [HO]; · iexact HO
    isplitl [HR10]; · iexact HR10
    iexact HC1
  iintro ⟨HO, HR10⟩
  iapply (ring_send m ρ 2 0 c _ (dev6_eq c) _ _ _ _ rfl rfl rfl (wcol m ρ 2 c) (Entails.of_eq (rsPay_0 m ρ 2 c).symm)
    (by rw [origin_ringTo_0]) _ (du c 5) (du c 6) rfl) $$ [HO HR20 HC2]
  · isplitr; · iexact He
    isplitl [HO]; · iexact HO
    isplitl [HR20]; · iexact HR20
    iexact HC2
  iintro ⟨HO, HR20⟩
  iapply (ring_send m ρ 3 0 c _ (dev7_eq c) _ _ _ _ rfl rfl rfl (wcol m ρ 3 c) (Entails.of_eq (rsPay_0 m ρ 3 c).symm)
    (by rw [origin_ringTo_0]) _ (du c 6) (du c 7) rfl) $$ [HO HR30 HC3]
  · isplitr; · iexact He
    isplitl [HO]; · iexact HO
    isplitl [HR30]; · iexact HR30
    iexact HC3
  iintro ⟨HO, HR30⟩
  iapply (step_load_x c fullShare (xv m ρ c) _) $$ HX
  iintro HX
  iapply (step_load_w c fullShare.right (wv m ρ c) _) $$ HW
  iintro HW
  iapply (run_ret c)
  iapply Hk $$ [HO HR10 HR20 HR30 HX HW]
  isplitl [HO]; · iexact HO
  isplitl [HR10]; · iexact HR10
  isplitl [HR20]; · iexact HR20
  isplitl [HR30]; · iexact HR30
  isplitl [HX]; · iexact HX
  iexact HW

theorem part4 {Q : (BitVec 32) → sProp 𝕄} (c : Dev nD) (v13 : BitVec 32) (v86 : FVec F S1024x512 .f32) :
    iprop(env m ρ ∗ anyAt c (oo c)
      ∗ ow c (du c 7)
      ∗ R1 0 0 c
      ∗ R0 0 1 c
      ∗ ((own c (oo c) fullShare v86
          ∗ ow c (du c 8)
          ∗ R3 0 0 c
          ∗ R1 0 1 c
          ∗ own c (wc 0) fullShare.left (wcol m ρ 0 c)
          ∗ own c (wb 0 0) fullShare.right (wcol m ρ 0 (origin 0 0 c)))
          -∗ ∀ v, Q v))
    ⊢ run c (k0_part4 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v13 v86) Q := by
  simp only [k0_part4_eq_skeleton]; unfold k0_part4_skel
  simp only [Prog.lift, Prog.bind_op, Prog.bind_ret, Prog.pure_eq_ret, Prog.bind_assoc]
  iintro ⟨#He, HOO, HO, HR00, HR01, Hk⟩
  iapply (step_dead_oo c (Rect.unit (s := S4096x512) (k0_off1 c) S1024x512.size (k0_off1_inb c)) (by simp only [k0_off1_eq])) $$ HOO
  iintro %v HOO
  iapply (step_store_oo c (k0_off1 c) (k0_off1_eq c) (k0_off1_inb c) v86) $$ HOO
  iintro HOO
  iapply (ring_wait_send m ρ 0 0 c _ rfl _ _ _ (du c 7) rfl) $$ [HO HR00]
  · isplitr; · iexact He
    isplitl [HO]; · iexact HO
    iexact HR00
  iintro ⟨HO, HR00, Hn⟩
  ihave HC0 := (Entails.of_eq (rsPay_0 m ρ 0 c)) $$ Hn
  iapply (ring_wait_recv m ρ 0 0 c _ rfl _ _ _ (du c 7) rfl) $$ [HO HR00]
  · isplitr; · iexact He
    isplitl [HO]; · iexact HO
    iexact HR00
  iintro ⟨HO, HR00, Hn⟩
  ihave Hnn := (rvPay_halves m ρ 0 c) $$ Hn
  icases Hnn with ⟨HL0, HH0⟩
  iapply (ring_send m ρ 0 1 c _ (dev8_eq c) _ _ _ _ rfl rfl rfl (wcol m ρ 0 (origin 0 0 c)) (Entails.of_eq (rsPay_1 m ρ 0 c).symm)
    (by rw [origin_ringTo_1]) _ (du c 7) (du c 8) rfl) $$ [HO HR01 HL0]
  · isplitr; · iexact He
    isplitl [HO]; · iexact HO
    isplitl [HR01]; · iexact HR01
    iexact HL0
  iintro ⟨HO, HR01⟩
  iapply (run_ret c)
  iapply Hk $$ [HOO HO HR00 HR01 HC0 HH0]
  isplitl [HOO]; · iexact HOO
  isplitl [HO]; · iexact HO
  isplitl [HR00]; · iexact HR00
  isplitl [HR01]; · iexact HR01
  isplitl [HC0]; · iexact HC0
  iexact HH0

theorem part5 {Q : (PUnit) → sProp 𝕄} (c : Dev nD) (v2 : BitVec 32) (c4_i32_100 : BitVec 32) :
    iprop(env m ρ ∗ own c xM fullShare (xv m ρ c)
      ∗ own c (wb 0 0) fullShare.right (wcol m ρ 0 (origin 0 0 c))
      ∗ anyAt c (rb (slot 0 0))
      ∗ ((own c xM fullShare (xv m ρ c)
          ∗ own c (wb 0 0) fullShare.right (wcol m ρ 0 (origin 0 0 c))
          ∗ own c (rb (slot 0 0)) fullShare (pv m ρ 0 0 c))
          -∗ ∀ v, Q v))
    ⊢ run c (k0_part5 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 c4_i32_100) Q := by
  simp only [k0_part5_eq_skeleton]; unfold k0_part5_skel
  simp only [Prog.lift, Prog.bind_op, Prog.bind_ret, Prog.pure_eq_ret, Prog.bind_assoc]
  iintro ⟨#He, HX, HH0, HP00, Hk⟩
  iapply (step_load_x c fullShare (xv m ρ c) _) $$ HX
  iintro HX
  iapply (step_product c 0 0 (slot 0 0) fullShare.right (xv m ρ c) (wcol m ρ 0 (origin 0 0 c)) (k0_pay2 (xv m ρ c)) (pay2_eq _) _) $$ [HH0 HP00]
  · isplitl [HH0]; · iexact HH0
    iexact HP00
  iintro ⟨HH0, HP00⟩
  iapply (run_ret c)
  iapply Hk $$ [HX HH0 HP00]
  isplitl [HX]; · iexact HX
  isplitl [HH0]; · iexact HH0
  iexact HP00

theorem part6 {Q : (Σ' (v166 : BitVec 32), BitVec 32) → sProp 𝕄} (c : Dev nD) (v2 : BitVec 32) (v25 : BitVec 32) :
    iprop(env m ρ ∗ ow c (du c 8)
      ∗ O0 0 0 c
      ∗ own c (rb (slot 0 0)) fullShare (pv m ρ 0 0 c)
      ∗ R1 2 0 c
      ∗ R0 2 1 c
      ∗ ((ow c (du c 10)
          ∗ O1 0 0 c
          ∗ R3 2 0 c
          ∗ R1 2 1 c
          ∗ own c (wc 2) fullShare.left (wcol m ρ 2 c)
          ∗ own c (wb 2 0) fullShare.right (wcol m ρ 2 (origin 2 0 c)))
          -∗ ∀ v, Q v))
    ⊢ run c (k0_part6 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v25) Q := by
  simp only [k0_part6_eq_skeleton]; unfold k0_part6_skel
  simp only [Prog.lift, Prog.bind_op, Prog.bind_ret, Prog.pure_eq_ret, Prog.bind_assoc]
  iintro ⟨#He, HO, HS00, HP00, HR20, HR21, Hk⟩
  iapply (res_send m ρ 0 0 c _ (dev9_eq c) _ _ _ _ rfl (off2_view c) rfl rfl _ (du c 8) (du c 9) rfl) $$ [HO HS00 HP00]
  · isplitr; · iexact He
    isplitl [HO]; · iexact HO
    isplitl [HS00]; · iexact HS00
    iexact HP00
  iintro ⟨HO, HS00⟩
  iapply (ring_wait_send m ρ 2 0 c _ rfl _ _ _ (du c 9) rfl) $$ [HO HR20]
  · isplitr; · iexact He
    isplitl [HO]; · iexact HO
    iexact HR20
  iintro ⟨HO, HR20, Hn⟩
  ihave HC2 := (Entails.of_eq (rsPay_0 m ρ 2 c)) $$ Hn
  iapply (ring_wait_recv m ρ 2 0 c _ rfl _ _ _ (du c 9) rfl) $$ [HO HR20]
  · isplitr; · iexact He
    isplitl [HO]; · iexact HO
    iexact HR20
  iintro ⟨HO, HR20, Hn⟩
  ihave Hnn := (rvPay_halves m ρ 2 c) $$ Hn
  icases Hnn with ⟨HL2, HH2⟩
  iapply (ring_send m ρ 2 1 c _ (dev10_eq c) _ _ _ _ rfl rfl rfl (wcol m ρ 2 (origin 2 0 c)) (Entails.of_eq (rsPay_1 m ρ 2 c).symm)
    (by rw [origin_ringTo_1]) _ (du c 9) (du c 10) rfl) $$ [HO HR21 HL2]
  · isplitr; · iexact He
    isplitl [HO]; · iexact HO
    isplitl [HR21]; · iexact HR21
    iexact HL2
  iintro ⟨HO, HR21⟩
  iapply (run_ret c)
  iapply Hk $$ [HO HS00 HR20 HR21 HC2 HH2]
  isplitl [HO]; · iexact HO
  isplitl [HS00]; · iexact HS00
  isplitl [HR20]; · iexact HR20
  isplitl [HR21]; · iexact HR21
  isplitl [HC2]; · iexact HC2
  iexact HH2

theorem part7 {Q : (PUnit) → sProp 𝕄} (c : Dev nD) (v2 : BitVec 32) (v166 : BitVec 32) (c_m1_i32 : BitVec 32) :
    iprop(env m ρ ∗ own c xM fullShare (xv m ρ c)
      ∗ own c (wb 2 0) fullShare.right (wcol m ρ 2 (origin 2 0 c))
      ∗ anyAt c (rb (slot 2 0))
      ∗ ow c (du c 10)
      ∗ O0 2 0 c
      ∗ ((own c xM fullShare (xv m ρ c)
          ∗ own c (wb 2 0) fullShare.right (wcol m ρ 2 (origin 2 0 c))
          ∗ ow c (du c 11)
          ∗ O1 2 0 c)
          -∗ ∀ v, Q v))
    ⊢ run c (k0_part7 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v166 c_m1_i32) Q := by
  simp only [k0_part7_eq_skeleton]; unfold k0_part7_skel
  simp only [Prog.lift, Prog.bind_op, Prog.bind_ret, Prog.pure_eq_ret, Prog.bind_assoc]
  iintro ⟨#He, HX, HH2, HP20, HO, HS20, Hk⟩
  iapply (step_load_x c fullShare (xv m ρ c) _) $$ HX
  iintro HX
  iapply (step_product c 2 0 (slot 2 0) fullShare.right (xv m ρ c) (wcol m ρ 2 (origin 2 0 c)) (k0_pay3 (xv m ρ c)) (pay3_eq _) _) $$ [HH2 HP20]
  · isplitl [HH2]; · iexact HH2
    iexact HP20
  iintro ⟨HH2, HP20⟩
  iapply (res_send m ρ 2 0 c _ (dev11_eq c) _ _ _ _ rfl (off3_view c) rfl rfl _ (du c 10) (du c 11) rfl) $$ [HO HS20 HP20]
  · isplitr; · iexact He
    isplitl [HO]; · iexact HO
    isplitl [HS20]; · iexact HS20
    iexact HP20
  iintro ⟨HO, HS20⟩
  iapply (run_ret c)
  iapply Hk $$ [HX HH2 HO HS20]
  isplitl [HX]; · iexact HX
  isplitl [HH2]; · iexact HH2
  isplitl [HO]; · iexact HO
  iexact HS20

theorem part8 {Q : (Σ' (v221 : BitVec 32), BitVec 32) → sProp 𝕄} (c : Dev nD) (v2 : BitVec 32) (v13 : BitVec 32) :
    iprop(env m ρ ∗ ow c (du c 11)
      ∗ R1 1 0 c
      ∗ R0 1 1 c
      ∗ ((ow c (du c 12)
          ∗ R3 1 0 c
          ∗ R1 1 1 c
          ∗ own c (wc 1) fullShare.left (wcol m ρ 1 c)
          ∗ own c (wb 1 0) fullShare.right (wcol m ρ 1 (origin 1 0 c)))
          -∗ ∀ v, Q v))
    ⊢ run c (k0_part8 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v13) Q := by
  simp only [k0_part8_eq_skeleton]; unfold k0_part8_skel
  simp only [Prog.lift, Prog.bind_op, Prog.bind_ret, Prog.pure_eq_ret, Prog.bind_assoc]
  iintro ⟨#He, HO, HR10, HR11, Hk⟩
  iapply (ring_wait_send m ρ 1 0 c _ rfl _ _ _ (du c 11) rfl) $$ [HO HR10]
  · isplitr; · iexact He
    isplitl [HO]; · iexact HO
    iexact HR10
  iintro ⟨HO, HR10, Hn⟩
  ihave HC1 := (Entails.of_eq (rsPay_0 m ρ 1 c)) $$ Hn
  iapply (ring_wait_recv m ρ 1 0 c _ rfl _ _ _ (du c 11) rfl) $$ [HO HR10]
  · isplitr; · iexact He
    isplitl [HO]; · iexact HO
    iexact HR10
  iintro ⟨HO, HR10, Hn⟩
  ihave Hnn := (rvPay_halves m ρ 1 c) $$ Hn
  icases Hnn with ⟨HL1, HH1⟩
  iapply (ring_send m ρ 1 1 c _ (dev12_eq c) _ _ _ _ rfl rfl rfl (wcol m ρ 1 (origin 1 0 c)) (Entails.of_eq (rsPay_1 m ρ 1 c).symm)
    (by rw [origin_ringTo_1]) _ (du c 11) (du c 12) rfl) $$ [HO HR11 HL1]
  · isplitr; · iexact He
    isplitl [HO]; · iexact HO
    isplitl [HR11]; · iexact HR11
    iexact HL1
  iintro ⟨HO, HR11⟩
  iapply (run_ret c)
  iapply Hk $$ [HO HR10 HR11 HC1 HH1]
  isplitl [HO]; · iexact HO
  isplitl [HR10]; · iexact HR10
  isplitl [HR11]; · iexact HR11
  isplitl [HC1]; · iexact HC1
  iexact HH1

theorem part9 {Q : (PUnit) → sProp 𝕄} (c : Dev nD) (v2 : BitVec 32) (v221 : BitVec 32) (c4_i32_216 : BitVec 32) :
    iprop(env m ρ ∗ own c xM fullShare (xv m ρ c)
      ∗ own c (wb 1 0) fullShare.right (wcol m ρ 1 (origin 1 0 c))
      ∗ anyAt c (rb (slot 1 0))
      ∗ ow c (du c 12)
      ∗ O0 1 0 c
      ∗ ((own c xM fullShare (xv m ρ c)
          ∗ own c (wb 1 0) fullShare.right (wcol m ρ 1 (origin 1 0 c))
          ∗ ow c (du c 13)
          ∗ O1 1 0 c)
          -∗ ∀ v, Q v))
    ⊢ run c (k0_part9 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v221 c4_i32_216) Q := by
  simp only [k0_part9_eq_skeleton]; unfold k0_part9_skel
  simp only [Prog.lift, Prog.bind_op, Prog.bind_ret, Prog.pure_eq_ret, Prog.bind_assoc]
  iintro ⟨#He, HX, HH1, HP10, HO, HS10, Hk⟩
  iapply (step_load_x c fullShare (xv m ρ c) _) $$ HX
  iintro HX
  iapply (step_product c 1 0 (slot 1 0) fullShare.right (xv m ρ c) (wcol m ρ 1 (origin 1 0 c)) (k0_pay4 (xv m ρ c)) (pay4_eq _) _) $$ [HH1 HP10]
  · isplitl [HH1]; · iexact HH1
    iexact HP10
  iintro ⟨HH1, HP10⟩
  iapply (res_send m ρ 1 0 c _ (dev13_eq c) _ _ _ _ rfl (off4_view c) rfl rfl _ (du c 12) (du c 13) rfl) $$ [HO HS10 HP10]
  · isplitr; · iexact He
    isplitl [HO]; · iexact HO
    isplitl [HS10]; · iexact HS10
    iexact HP10
  iintro ⟨HO, HS10⟩
  iapply (run_ret c)
  iapply Hk $$ [HX HH1 HO HS10]
  isplitl [HX]; · iexact HX
  isplitl [HH1]; · iexact HH1
  isplitl [HO]; · iexact HO
  iexact HS10

theorem part10 {Q : (Σ' (v275 : BitVec 32) (c4_i32_272 : BitVec 32), BitVec 1) → sProp 𝕄} (c : Dev nD) (v2 : BitVec 32) (v25 : BitVec 32) :
    iprop(env m ρ ∗ ow c (du c 13)
      ∗ R1 3 0 c
      ∗ R0 3 1 c
      ∗ ((ow c (du c 14)
          ∗ R3 3 0 c
          ∗ R1 3 1 c
          ∗ own c (wc 3) fullShare.left (wcol m ρ 3 c)
          ∗ own c (wb 3 0) fullShare.right (wcol m ρ 3 (origin 3 0 c)))
          -∗ ∀ v, Q v))
    ⊢ run c (k0_part10 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v25) Q := by
  simp only [k0_part10_eq_skeleton]; unfold k0_part10_skel
  simp only [Prog.lift, Prog.bind_op, Prog.bind_ret, Prog.pure_eq_ret, Prog.bind_assoc]
  iintro ⟨#He, HO, HR30, HR31, Hk⟩
  iapply (ring_wait_send m ρ 3 0 c _ rfl _ _ _ (du c 13) rfl) $$ [HO HR30]
  · isplitr; · iexact He
    isplitl [HO]; · iexact HO
    iexact HR30
  iintro ⟨HO, HR30, Hn⟩
  ihave HC3 := (Entails.of_eq (rsPay_0 m ρ 3 c)) $$ Hn
  iapply (ring_wait_recv m ρ 3 0 c _ rfl _ _ _ (du c 13) rfl) $$ [HO HR30]
  · isplitr; · iexact He
    isplitl [HO]; · iexact HO
    iexact HR30
  iintro ⟨HO, HR30, Hn⟩
  ihave Hnn := (rvPay_halves m ρ 3 c) $$ Hn
  icases Hnn with ⟨HL3, HH3⟩
  iapply (ring_send m ρ 3 1 c _ (dev14_eq c) _ _ _ _ rfl rfl rfl (wcol m ρ 3 (origin 3 0 c)) (Entails.of_eq (rsPay_1 m ρ 3 c).symm)
    (by rw [origin_ringTo_1]) _ (du c 13) (du c 14) rfl) $$ [HO HR31 HL3]
  · isplitr; · iexact He
    isplitl [HO]; · iexact HO
    isplitl [HR31]; · iexact HR31
    iexact HL3
  iintro ⟨HO, HR31⟩
  iapply (run_ret c)
  iapply Hk $$ [HO HR30 HR31 HC3 HH3]
  isplitl [HO]; · iexact HO
  isplitl [HR30]; · iexact HR30
  isplitl [HR31]; · iexact HR31
  isplitl [HC3]; · iexact HC3
  iexact HH3

end Cert.RingProof

end
-- ==== Proof.Parts2.lean ====
/-
# The kernel's parts 11 to 18

Each part of the body at a symbolic device: what it takes of the device's resources, and what it leaves.
-/
module

public import proofs.«01_k».proof.Proof.Stages

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000

theorem part11 {Q : (PUnit) → sProp 𝕄} (c : Dev nD) (v2 : BitVec 32) (v275 : BitVec 32) (c4_i32_272 : BitVec 32) (v276 : BitVec 1) :
    iprop(env m ρ ∗ own c xM fullShare (xv m ρ c)
      ∗ own c (wb 3 0) fullShare.right (wcol m ρ 3 (origin 3 0 c))
      ∗ anyAt c (rb (slot 3 0))
      ∗ ow c (du c 14)
      ∗ O0 3 0 c
      ∗ ((own c xM fullShare (xv m ρ c)
          ∗ own c (wb 3 0) fullShare.right (wcol m ρ 3 (origin 3 0 c))
          ∗ ow c (du c 15)
          ∗ O1 3 0 c)
          -∗ ∀ v, Q v))
    ⊢ run c (k0_part11 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v275 c4_i32_272 v276) Q := by
  simp only [k0_part11_eq_skeleton]; unfold k0_part11_skel
  simp only [Prog.lift, Prog.bind_op, Prog.bind_ret, Prog.pure_eq_ret, Prog.bind_assoc]
  iintro ⟨#He, HX, HH3, HP30, HO, HS30, Hk⟩
  iapply (step_load_x c fullShare (xv m ρ c) _) $$ HX
  iintro HX
  iapply (step_product c 3 0 (slot 3 0) fullShare.right (xv m ρ c) (wcol m ρ 3 (origin 3 0 c)) (k0_pay5 (xv m ρ c)) (pay5_eq _) _) $$ [HH3 HP30]
  · isplitl [HH3]; · iexact HH3
    iexact HP30
  iintro ⟨HH3, HP30⟩
  iapply (res_send m ρ 3 0 c _ (dev15_eq c) _ _ _ _ rfl (off5_view c) rfl rfl _ (du c 14) (du c 15) rfl) $$ [HO HS30 HP30]
  · isplitr; · iexact He
    isplitl [HO]; · iexact HO
    isplitl [HS30]; · iexact HS30
    iexact HP30
  iintro ⟨HO, HS30⟩
  iapply (run_ret c)
  iapply Hk $$ [HX HH3 HO HS30]
  isplitl [HX]; · iexact HX
  isplitl [HH3]; · iexact HH3
  isplitl [HO]; · iexact HO
  iexact HS30

theorem part12 {Q : (Σ' (v331 : BitVec 32), FVec F S1024x4096 .f32) → sProp 𝕄} (c : Dev nD) (v2 : BitVec 32) (v13 : BitVec 32) :
    iprop(env m ρ ∗ ow c (du c 15)
      ∗ R1 0 1 c
      ∗ own c xM fullShare (xv m ρ c)
      ∗ ((ow c (du c 15)
          ∗ R3 0 1 c
          ∗ own c xM fullShare (xv m ρ c)
          ∗ own c (wb 0 1) fullShare (wcol m ρ 0 (origin 0 1 c))
          ∗ own c (wb 0 0) fullShare.left (wcol m ρ 0 (origin 0 0 c)))
          -∗ ∀ a, Q ⟨a, k0_pay6 (xv m ρ c)⟩))
    ⊢ run c (k0_part12 (F := F) xM (Memref.isWhole_whole _) wM (Memref.isWhole_whole _) oM (Memref.isWhole_whole _) bM (Memref.isWhole_whole _) rM (Memref.isWhole_whole _)
      cc0_scratch2 cc0_scratch3 cc0_scratch4 cc0_scratch5 v2 v13) Q := by
  simp only [k0_part12_eq_skeleton]; unfold k0_part12_skel
  simp only [Prog.lift, Prog.bind_op, Prog.bind_ret, Prog.pure_eq_ret, Prog.bind_assoc]
  iintro ⟨#He, HO, HR01, HX, Hk⟩
  iapply (ring_wait_send m ρ 0 1 c _ rfl _ _ _ (du c 15) rfl) $$ [HO HR01]
  · isplitr; · iexact He
    isplitl [HO]; · iexact HO
    iexact HR01
  iintro ⟨HO, HR01, Hn⟩
  ihave HL0 := (Entails.of_eq (rsPay_1 m ρ 0 c)) $$ Hn
  iapply (ring_wait_recv m ρ 0 1 c _ rfl _ _ _ (du c 15) rfl) $$ [HO HR01]
  · isplitr; · iexact He
    isplitl [HO]; · iexact HO
    iexact HR01
  iintro ⟨HO, HR01, Hn⟩
  ihave HB0 := (Entails.of_eq (rvPay_1 m ρ 0 c)) $$ Hn
  iapply (step_load_x c fullShare (xv m ρ c) _) $$ HX
  iintro HX
  iapply (run_ret c)
  iapply Hk $$ [HO HR01 HX HB0 HL0]
  isplitl [HO]; · iexact HO
  isplitl [HR01]; · iexact HR01
  isplitl [HX]; · iexact HX
  isplitl [HB0]; · iexact HB0
  iexact HL0

theorem part13 {Q : (PUnit) → sProp 𝕄} (c : Dev nD) (v2 : BitVec 32) (v331 : BitVec 32) :
    iprop(env m ρ ∗ own c (wb 0 1) fullShare (wcol m ρ 0 (origin 0 1 c))
      ∗ anyAt c (rb (slot 0 1))
      ∗ ow c (du c 15)
      ∗ O0 0 1 c
      ∗ R1 2 1 c
      ∗ ((own c (wb 0 1) fullShare (wcol m ρ 0 (origin 0 1 c))
          ∗ ow c (du c 16)
          ∗ O1 0 1 c
          ∗ R2 2 1 c
          ∗ own c (wb 2 0) fullShare.left (wcol m ρ 2 (origin 2 0 c)))
          -∗ ∀ v, Q v))
    ⊢ run c (k0_part13 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v331 (k0_pay6 (xv m ρ c))) Q := by
  simp only [k0_part13_eq_skeleton]; unfold k0_part13_skel
  simp only [Prog.lift, Prog.bind_op, Prog.bind_ret, Prog.pure_eq_ret, Prog.bind_assoc]
  iintro ⟨#He, HB0, HP01, HO, HS01, HR21, Hk⟩
  iapply (step_product c 0 1 (slot 0 1) fullShare (xv m ρ c) (wcol m ρ 0 (origin 0 1 c)) (k0_pay7 (k0_pay6 (xv m ρ c))) (pay7_eq _) _) $$ [HB0 HP01]
  · isplitl [HB0]; · iexact HB0
    iexact HP01
  iintro ⟨HB0, HP01⟩
  iapply (res_send m ρ 0 1 c _ (dev16_eq c) _ _ _ _ rfl (off2_view c) rfl rfl _ (du c 15) (du c 16) rfl) $$ [HO HS01 HP01]
  · isplitr; · iexact He
    isplitl [HO]; · iexact HO
    isplitl [HS01]; · iexact HS01
    iexact HP01
  iintro ⟨HO, HS01⟩
  iapply (ring_wait_send m ρ 2 1 c _ rfl _ _ _ (du c 16) rfl) $$ [HO HR21]
  · isplitr; · iexact He
    isplitl [HO]; · iexact HO
    iexact HR21
  iintro ⟨HO, HR21, Hn⟩
  ihave HL2 := (Entails.of_eq (rsPay_1 m ρ 2 c)) $$ Hn
  iapply (run_ret c)
  iapply Hk $$ [HB0 HO HS01 HR21 HL2]
  isplitl [HB0]; · iexact HB0
  isplitl [HO]; · iexact HO
  isplitl [HS01]; · iexact HS01
  isplitl [HR21]; · iexact HR21
  iexact HL2

theorem part14 {Q : (BitVec 32) → sProp 𝕄} (c : Dev nD) (v2 : BitVec 32) (v25 : BitVec 32) :
    iprop(env m ρ ∗ ow c (du c 16)
      ∗ R2 2 1 c
      ∗ own c xM fullShare (xv m ρ c)
      ∗ anyAt c (rb (slot 2 1))
      ∗ ((ow c (du c 16)
          ∗ R3 2 1 c
          ∗ own c xM fullShare (xv m ρ c)
          ∗ own c (rb (slot 2 1)) fullShare (pv m ρ 2 1 c)
          ∗ own c (wb 2 1) fullShare (wcol m ρ 2 (origin 2 1 c)))
          -∗ ∀ v, Q v))
    ⊢ run c (k0_part14 (F := F) xM (Memref.isWhole_whole _) wM (Memref.isWhole_whole _) oM (Memref.isWhole_whole _) bM (Memref.isWhole_whole _) rM (Memref.isWhole_whole _)
      cc0_scratch2 cc0_scratch3 cc0_scratch4 cc0_scratch5 v2 v25) Q := by
  simp only [k0_part14_eq_skeleton]; unfold k0_part14_skel
  simp only [Prog.lift, Prog.bind_op, Prog.bind_ret, Prog.pure_eq_ret, Prog.bind_assoc]
  iintro ⟨#He, HO, HR21, HX, HP21, Hk⟩
  iapply (ring_wait_recv m ρ 2 1 c _ rfl _ _ _ (du c 16) rfl) $$ [HO HR21]
  · isplitr; · iexact He
    isplitl [HO]; · iexact HO
    iexact HR21
  iintro ⟨HO, HR21, Hn⟩
  ihave HB2 := (Entails.of_eq (rvPay_1 m ρ 2 c)) $$ Hn
  iapply (step_load_x c fullShare (xv m ρ c) _) $$ HX
  iintro HX
  iapply (step_product c 2 1 (slot 2 1) fullShare (xv m ρ c) (wcol m ρ 2 (origin 2 1 c)) (k0_pay8 (xv m ρ c)) (pay8_eq _) _) $$ [HB2 HP21]
  · isplitl [HB2]; · iexact HB2
    iexact HP21
  iintro ⟨HB2, HP21⟩
  iapply (run_ret c)
  iapply Hk $$ [HO HR21 HX HP21 HB2]
  isplitl [HO]; · iexact HO
  isplitl [HR21]; · iexact HR21
  isplitl [HX]; · iexact HX
  isplitl [HP21]; · iexact HP21
  iexact HB2

theorem part15 {Q : (BitVec 32) → sProp 𝕄} (c : Dev nD) (v2 : BitVec 32) (v13 : BitVec 32) (v377 : BitVec 32) :
    iprop(env m ρ ∗ ow c (du c 16)
      ∗ O0 2 1 c
      ∗ own c (rb (slot 2 1)) fullShare (pv m ρ 2 1 c)
      ∗ R1 1 1 c
      ∗ ((ow c (du c 17)
          ∗ O1 2 1 c
          ∗ R3 1 1 c
          ∗ own c (wb 1 1) fullShare (wcol m ρ 1 (origin 1 1 c))
          ∗ own c (wb 1 0) fullShare.left (wcol m ρ 1 (origin 1 0 c)))
          -∗ ∀ v, Q v))
    ⊢ run c (k0_part15 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v13 v377) Q := by
  simp only [k0_part15_eq_skeleton]; unfold k0_part15_skel
  simp only [Prog.lift, Prog.bind_op, Prog.bind_ret, Prog.pure_eq_ret, Prog.bind_assoc]
  iintro ⟨#He, HO, HS21, HP21, HR11, Hk⟩
  iapply (res_send m ρ 2 1 c _ (dev17_eq c) _ _ _ _ rfl (off3_view c) rfl rfl _ (du c 16) (du c 17) rfl) $$ [HO HS21 HP21]
  · isplitr; · iexact He
    isplitl [HO]; · iexact HO
    isplitl [HS21]; · iexact HS21
    iexact HP21
  iintro ⟨HO, HS21⟩
  iapply (ring_wait_send m ρ 1 1 c _ rfl _ _ _ (du c 17) rfl) $$ [HO HR11]
  · isplitr; · iexact He
    isplitl [HO]; · iexact HO
    iexact HR11
  iintro ⟨HO, HR11, Hn⟩
  ihave HL1 := (Entails.of_eq (rsPay_1 m ρ 1 c)) $$ Hn
  iapply (ring_wait_recv m ρ 1 1 c _ rfl _ _ _ (du c 17) rfl) $$ [HO HR11]
  · isplitr; · iexact He
    isplitl [HO]; · iexact HO
    iexact HR11
  iintro ⟨HO, HR11, Hn⟩
  ihave HB1 := (Entails.of_eq (rvPay_1 m ρ 1 c)) $$ Hn
  iapply (run_ret c)
  iapply Hk $$ [HO HS21 HR11 HB1 HL1]
  isplitl [HO]; · iexact HO
  isplitl [HS21]; · iexact HS21
  isplitl [HR11]; · iexact HR11
  isplitl [HB1]; · iexact HB1
  iexact HL1

theorem part16 {Q : (PUnit) → sProp 𝕄} (c : Dev nD) (v2 : BitVec 32) (v413 : BitVec 32) :
    iprop(env m ρ ∗ own c xM fullShare (xv m ρ c)
      ∗ own c (wb 1 1) fullShare (wcol m ρ 1 (origin 1 1 c))
      ∗ anyAt c (rb (slot 1 1))
      ∗ ow c (du c 17)
      ∗ O0 1 1 c
      ∗ ((own c xM fullShare (xv m ρ c)
          ∗ own c (wb 1 1) fullShare (wcol m ρ 1 (origin 1 1 c))
          ∗ ow c (du c 18)
          ∗ O1 1 1 c)
          -∗ ∀ v, Q v))
    ⊢ run c (k0_part16 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v413) Q := by
  simp only [k0_part16_eq_skeleton]; unfold k0_part16_skel
  simp only [Prog.lift, Prog.bind_op, Prog.bind_ret, Prog.pure_eq_ret, Prog.bind_assoc]
  iintro ⟨#He, HX, HB1, HP11, HO, HS11, Hk⟩
  iapply (step_load_x c fullShare (xv m ρ c) _) $$ HX
  iintro HX
  iapply (step_product c 1 1 (slot 1 1) fullShare (xv m ρ c) (wcol m ρ 1 (origin 1 1 c)) (k0_pay9 (xv m ρ c)) (pay9_eq _) _) $$ [HB1 HP11]
  · isplitl [HB1]; · iexact HB1
    iexact HP11
  iintro ⟨HB1, HP11⟩
  iapply (res_send m ρ 1 1 c _ (dev18_eq c) _ _ _ _ rfl (off4_view c) rfl rfl _ (du c 17) (du c 18) rfl) $$ [HO HS11 HP11]
  · isplitr; · iexact He
    isplitl [HO]; · iexact HO
    isplitl [HS11]; · iexact HS11
    iexact HP11
  iintro ⟨HO, HS11⟩
  iapply (run_ret c)
  iapply Hk $$ [HX HB1 HO HS11]
  isplitl [HX]; · iexact HX
  isplitl [HB1]; · iexact HB1
  isplitl [HO]; · iexact HO
  iexact HS11

theorem part17 {Q : (Σ' (v469 : BitVec 32), Vec F S1024x4096 .f32) → sProp 𝕄} (c : Dev nD) (v2 : BitVec 32) (v25 : BitVec 32) :
    iprop(env m ρ ∗ ow c (du c 18)
      ∗ R1 3 1 c
      ∗ own c xM fullShare (xv m ρ c)
      ∗ ((ow c (du c 18)
          ∗ R3 3 1 c
          ∗ own c xM fullShare (xv m ρ c)
          ∗ own c (wb 3 1) fullShare (wcol m ρ 3 (origin 3 1 c))
          ∗ own c (wb 3 0) fullShare.left (wcol m ρ 3 (origin 3 0 c)))
          -∗ ∀ a, Q ⟨a, xv m ρ c⟩))
    ⊢ run c (k0_part17 (F := F) xM (Memref.isWhole_whole _) wM (Memref.isWhole_whole _) oM (Memref.isWhole_whole _) bM (Memref.isWhole_whole _) rM (Memref.isWhole_whole _)
      cc0_scratch2 cc0_scratch3 cc0_scratch4 cc0_scratch5 v2 v25) Q := by
  simp only [k0_part17_eq_skeleton]; unfold k0_part17_skel
  simp only [Prog.lift, Prog.bind_op, Prog.bind_ret, Prog.pure_eq_ret, Prog.bind_assoc]
  iintro ⟨#He, HO, HR31, HX, Hk⟩
  iapply (ring_wait_send m ρ 3 1 c _ rfl _ _ _ (du c 18) rfl) $$ [HO HR31]
  · isplitr; · iexact He
    isplitl [HO]; · iexact HO
    iexact HR31
  iintro ⟨HO, HR31, Hn⟩
  ihave HL3 := (Entails.of_eq (rsPay_1 m ρ 3 c)) $$ Hn
  iapply (ring_wait_recv m ρ 3 1 c _ rfl _ _ _ (du c 18) rfl) $$ [HO HR31]
  · isplitr; · iexact He
    isplitl [HO]; · iexact HO
    iexact HR31
  iintro ⟨HO, HR31, Hn⟩
  ihave HB3 := (Entails.of_eq (rvPay_1 m ρ 3 c)) $$ Hn
  iapply (step_load_x c fullShare (xv m ρ c) _) $$ HX
  iintro HX
  iapply (run_ret c)
  iapply Hk $$ [HO HR31 HX HB3 HL3]
  isplitl [HO]; · iexact HO
  isplitl [HR31]; · iexact HR31
  isplitl [HX]; · iexact HX
  isplitl [HB3]; · iexact HB3
  iexact HL3

theorem part18 {Q : (Σ' (v501 : BitVec 32), BitVec 32) → sProp 𝕄} (c : Dev nD) (v2 : BitVec 32) (v469 : BitVec 32) :
    iprop(env m ρ ∗ own c (wb 3 1) fullShare (wcol m ρ 3 (origin 3 1 c))
      ∗ anyAt c (rb (slot 3 1))
      ∗ ow c (du c 18)
      ∗ O0 3 1 c
      ∗ ((own c (wb 3 1) fullShare (wcol m ρ 3 (origin 3 1 c))
          ∗ ow c (du c 19)
          ∗ O1 3 1 c)
          -∗ ∀ v, Q v))
    ⊢ run c (k0_part18 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v469 (xv m ρ c)) Q := by
  simp only [k0_part18_eq_skeleton]; unfold k0_part18_skel
  simp only [Prog.lift, Prog.bind_op, Prog.bind_ret, Prog.pure_eq_ret, Prog.bind_assoc]
  iintro ⟨#He, HB3, HP31, HO, HS31, Hk⟩
  iapply (step_product c 3 1 (slot 3 1) fullShare (xv m ρ c) (wcol m ρ 3 (origin 3 1 c)) (k0_pay10 (xv m ρ c)) (pay10_eq _) _) $$ [HB3 HP31]
  · isplitl [HB3]; · iexact HB3
    iexact HP31
  iintro ⟨HB3, HP31⟩
  iapply (res_send m ρ 3 1 c _ (dev19_eq c) _ _ _ _ rfl (off5_view c) rfl rfl _ (du c 18) (du c 19) rfl) $$ [HO HS31 HP31]
  · isplitr; · iexact He
    isplitl [HO]; · iexact HO
    isplitl [HS31]; · iexact HS31
    iexact HP31
  iintro ⟨HO, HS31⟩
  iapply (run_ret c)
  iapply Hk $$ [HB3 HO HS31]
  isplitl [HB3]; · iexact HB3
  isplitl [HO]; · iexact HO
  iexact HS31

end Cert.RingProof

end
-- ==== Proof.Parts3.lean ====
/-
# The kernel's parts 19 to 24

Each part of the body at a symbolic device: what it takes of the device's resources, and what it leaves.
-/
module

public import proofs.«01_k».proof.Proof.Stages

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000

theorem part19 {Q : (Σ' (v531 : BitVec 32), BitVec 32) → sProp 𝕄} (c : Dev nD) (v2 : BitVec 32) (v501 : BitVec 32) (c1024_i32_505 : BitVec 32) :
    iprop(env m ρ ∗ ow c (du c 19)
      ∗ O1 0 0 c
      ∗ O1 0 1 c
      ∗ ((ow c (du c 19)
          ∗ O2 0 0 c
          ∗ O2 0 1 c
          ∗ ovPay m ρ 0 0 c
          ∗ ovPay m ρ 0 1 c)
          -∗ ∀ v, Q v))
    ⊢ run c (k0_part19 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v501 c1024_i32_505) Q := by
  simp only [k0_part19_eq_skeleton]; unfold k0_part19_skel
  simp only [Prog.lift, Prog.bind_op, Prog.bind_ret, Prog.pure_eq_ret, Prog.bind_assoc]
  iintro ⟨#He, HO, HS00, HS01, Hk⟩
  iapply (res_wait_recv m ρ 0 0 c _ rfl _ _ _ (du c 19) rfl) $$ [HO HS00]
  · isplitr; · iexact He
    isplitl [HO]; · iexact HO
    iexact HS00
  iintro ⟨HO, HS00, HV00⟩
  iapply (res_wait_recv m ρ 0 1 c _ rfl _ _ _ (du c 19) rfl) $$ [HO HS01]
  · isplitr; · iexact He
    isplitl [HO]; · iexact HO
    iexact HS01
  iintro ⟨HO, HS01, HV01⟩
  iapply (run_ret c)
  iapply Hk $$ [HO HS00 HS01 HV00 HV01]
  isplitl [HO]; · iexact HO
  isplitl [HS00]; · iexact HS00
  isplitl [HS01]; · iexact HS01
  isplitl [HV00]; · iexact HV00
  iexact HV01

theorem part20 {Q : (BitVec 32) → sProp 𝕄} (c : Dev nD) (v2 : BitVec 32) (v531 : BitVec 32) (c4_i32_533 : BitVec 32) :
    iprop(env m ρ ∗ ow c (du c 19)
      ∗ O1 1 0 c
      ∗ ((ow c (du c 19)
          ∗ O2 1 0 c
          ∗ ovPay m ρ 1 0 c)
          -∗ ∀ v, Q v))
    ⊢ run c (k0_part20 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v531 c4_i32_533) Q := by
  simp only [k0_part20_eq_skeleton]; unfold k0_part20_skel
  simp only [Prog.lift, Prog.bind_op, Prog.bind_ret, Prog.pure_eq_ret, Prog.bind_assoc]
  iintro ⟨#He, HO, HS10, Hk⟩
  iapply (res_wait_recv m ρ 1 0 c _ rfl _ _ _ (du c 19) rfl) $$ [HO HS10]
  · isplitr; · iexact He
    isplitl [HO]; · iexact HO
    iexact HS10
  iintro ⟨HO, HS10, HV10⟩
  iapply (run_ret c)
  iapply Hk $$ [HO HS10 HV10]
  isplitl [HO]; · iexact HO
  isplitl [HS10]; · iexact HS10
  iexact HV10

theorem part21 {Q : (Σ' (v593 : BitVec 32) (v594 : BitVec 32), BitVec 32) → sProp 𝕄} (c : Dev nD) (v2 : BitVec 32) (v563 : BitVec 32) :
    iprop(env m ρ ∗ ow c (du c 19)
      ∗ O1 1 1 c
      ∗ O1 2 0 c
      ∗ ((ow c (du c 19)
          ∗ O2 1 1 c
          ∗ O2 2 0 c
          ∗ ovPay m ρ 1 1 c
          ∗ ovPay m ρ 2 0 c)
          -∗ ∀ v, Q v))
    ⊢ run c (k0_part21 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v563) Q := by
  simp only [k0_part21_eq_skeleton]; unfold k0_part21_skel
  simp only [Prog.lift, Prog.bind_op, Prog.bind_ret, Prog.pure_eq_ret, Prog.bind_assoc]
  iintro ⟨#He, HO, HS11, HS20, Hk⟩
  iapply (res_wait_recv m ρ 1 1 c _ rfl _ _ _ (du c 19) rfl) $$ [HO HS11]
  · isplitr; · iexact He
    isplitl [HO]; · iexact HO
    iexact HS11
  iintro ⟨HO, HS11, HV11⟩
  iapply (res_wait_recv m ρ 2 0 c _ rfl _ _ _ (du c 19) rfl) $$ [HO HS20]
  · isplitr; · iexact He
    isplitl [HO]; · iexact HO
    iexact HS20
  iintro ⟨HO, HS20, HV20⟩
  iapply (run_ret c)
  iapply Hk $$ [HO HS11 HS20 HV11 HV20]
  isplitl [HO]; · iexact HO
  isplitl [HS11]; · iexact HS11
  isplitl [HS20]; · iexact HS20
  isplitl [HV11]; · iexact HV11
  iexact HV20

theorem part22 {Q : (PUnit) → sProp 𝕄} (c : Dev nD) (v2 : BitVec 32) (v593 : BitVec 32) (v594 : BitVec 32) (c0_i32_587 : BitVec 32) :
    iprop(env m ρ ∗ ow c (du c 19)
      ∗ O1 2 1 c
      ∗ ((ow c (du c 19)
          ∗ O2 2 1 c
          ∗ ovPay m ρ 2 1 c)
          -∗ ∀ v, Q v))
    ⊢ run c (k0_part22 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2 v593 v594 c0_i32_587) Q := by
  simp only [k0_part22_eq_skeleton]; unfold k0_part22_skel
  simp only [Prog.lift, Prog.bind_op, Prog.bind_ret, Prog.pure_eq_ret, Prog.bind_assoc]
  iintro ⟨#He, HO, HS21, Hk⟩
  iapply (res_wait_recv m ρ 2 1 c _ rfl _ _ _ (du c 19) rfl) $$ [HO HS21]
  · isplitr; · iexact He
    isplitl [HO]; · iexact HO
    iexact HS21
  iintro ⟨HO, HS21, HV21⟩
  iapply (run_ret c)
  iapply Hk $$ [HO HS21 HV21]
  isplitl [HO]; · iexact HO
  isplitl [HS21]; · iexact HS21
  iexact HV21

theorem part23 {Q : (PUnit) → sProp 𝕄} (c : Dev nD) (v2 : BitVec 32) :
    iprop(env m ρ ∗ ow c (du c 19)
      ∗ O1 3 0 c
      ∗ O1 3 1 c
      ∗ O2 0 0 c
      ∗ ((ow c (du c 19)
          ∗ O2 3 0 c
          ∗ O2 3 1 c
          ∗ O3 0 0 c
          ∗ anyAt c (rb (slot 0 0))
          ∗ ovPay m ρ 3 0 c
          ∗ ovPay m ρ 3 1 c)
          -∗ ∀ v, Q v))
    ⊢ run c (k0_part23 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c v2) Q := by
  simp only [k0_part23_eq_skeleton]; unfold k0_part23_skel
  simp only [Prog.lift, Prog.bind_op, Prog.bind_ret, Prog.pure_eq_ret, Prog.bind_assoc]
  iintro ⟨#He, HO, HS30, HS31, HS00, Hk⟩
  iapply (res_wait_recv m ρ 3 0 c _ rfl _ _ _ (du c 19) rfl) $$ [HO HS30]
  · isplitr; · iexact He
    isplitl [HO]; · iexact HO
    iexact HS30
  iintro ⟨HO, HS30, HV30⟩
  iapply (res_wait_recv m ρ 3 1 c _ rfl _ _ _ (du c 19) rfl) $$ [HO HS31]
  · isplitr; · iexact He
    isplitl [HO]; · iexact HO
    iexact HS31
  iintro ⟨HO, HS31, HV31⟩
  iapply (res_wait_send m ρ 0 0 c _ rfl _ _ _ (du c 19) rfl) $$ [HO HS00]
  · isplitr; · iexact He
    isplitl [HO]; · iexact HO
    iexact HS00
  iintro ⟨HO, HS00, HP00⟩
  iapply (run_ret c)
  iapply Hk $$ [HO HS30 HS31 HS00 HP00 HV30 HV31]
  isplitl [HO]; · iexact HO
  isplitl [HS30]; · iexact HS30
  isplitl [HS31]; · iexact HS31
  isplitl [HS00]; · iexact HS00
  isplitl [HP00]; · iexact HP00
  isplitl [HV30]; · iexact HV30
  iexact HV31

theorem part24 {Q : (PUnit) → sProp 𝕄} (c : Dev nD) :
    iprop(env m ρ ∗ ow c (du c 19)
      ∗ O2 2 0 c
      ∗ O2 1 0 c
      ∗ O2 3 0 c
      ∗ O2 0 1 c
      ∗ ((ow c (du c 19)
          ∗ O3 2 0 c
          ∗ O3 1 0 c
          ∗ O3 3 0 c
          ∗ O3 0 1 c
          ∗ anyAt c (rb (slot 0 1))
          ∗ anyAt c (rb (slot 1 0))
          ∗ anyAt c (rb (slot 2 0))
          ∗ anyAt c (rb (slot 3 0)))
          -∗ ∀ v, Q v))
    ⊢ run c (k0_part24 (F := F) xM (Memref.isWhole_whole _) wM (Memref.isWhole_whole _) oM (Memref.isWhole_whole _) bM (Memref.isWhole_whole _) rM (Memref.isWhole_whole _)
      cc0_scratch2 cc0_scratch3 cc0_scratch4 cc0_scratch5 c) Q := by
  simp only [k0_part24_eq_skeleton]; unfold k0_part24_skel
  simp only [Prog.lift, Prog.bind_op, Prog.bind_ret, Prog.pure_eq_ret, Prog.bind_assoc]
  iintro ⟨#He, HO, HS20, HS10, HS30, HS01, Hk⟩
  iapply (res_wait_send m ρ 2 0 c _ rfl _ _ _ (du c 19) rfl) $$ [HO HS20]
  · isplitr; · iexact He
    isplitl [HO]; · iexact HO
    iexact HS20
  iintro ⟨HO, HS20, HP20⟩
  iapply (res_wait_send m ρ 1 0 c _ rfl _ _ _ (du c 19) rfl) $$ [HO HS10]
  · isplitr; · iexact He
    isplitl [HO]; · iexact HO
    iexact HS10
  iintro ⟨HO, HS10, HP10⟩
  iapply (res_wait_send m ρ 3 0 c _ rfl _ _ _ (du c 19) rfl) $$ [HO HS30]
  · isplitr; · iexact He
    isplitl [HO]; · iexact HO
    iexact HS30
  iintro ⟨HO, HS30, HP30⟩
  iapply (res_wait_send m ρ 0 1 c _ rfl _ _ _ (du c 19) rfl) $$ [HO HS01]
  · isplitr; · iexact He
    isplitl [HO]; · iexact HO
    iexact HS01
  iintro ⟨HO, HS01, HP01⟩
  iapply (run_ret c)
  iapply Hk $$ [HO HS20 HS10 HS30 HS01 HP01 HP10 HP20 HP30]
  isplitl [HO]; · iexact HO
  isplitl [HS20]; · iexact HS20
  isplitl [HS10]; · iexact HS10
  isplitl [HS30]; · iexact HS30
  isplitl [HS01]; · iexact HS01
  isplitl [HP01]; · iexact HP01
  isplitl [HP10]; · iexact HP10
  isplitl [HP20]; · iexact HP20
  iexact HP30

end Cert.RingProof

end
-- ==== Proof.Run.lean ====
/-
# The kernel's run, at a symbolic device

The parts one after another.
-/
module

public import proofs.«01_k».proof.Proof.Parts0
public import proofs.«01_k».proof.Proof.Parts1
public import proofs.«01_k».proof.Proof.Parts2
public import proofs.«01_k».proof.Proof.Parts3

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000

/-- What the kernel's run needs on device `c`, once the two staged operands are cut up. -/
def Pre (c : Dev nD) : sProp 𝕄 := iprop(ow c (du c 0) ∗ Bs c ∗ Gs c ∗ barPay 0 (sh 3 c) ∗ barPay 1 (sh 1 c) ∗ barPay 2 (sh 2 c)
  ∗ own c xM fullShare (xv m ρ c)
  ∗ own c wM fullShare.right (wv m ρ c)
  ∗ own c (wc 0) fullShare.left (wcol m ρ 0 c)
  ∗ own c (wc 1) fullShare.left (wcol m ρ 1 c)
  ∗ own c (wc 2) fullShare.left (wcol m ρ 2 c)
  ∗ own c (wc 3) fullShare.left (wcol m ρ 3 c)
  ∗ anyAt c (rb (slot 0 0))
  ∗ anyAt c (rb (slot 0 1))
  ∗ anyAt c (rb (slot 1 0))
  ∗ anyAt c (rb (slot 1 1))
  ∗ anyAt c (rb (slot 2 0))
  ∗ anyAt c (rb (slot 2 1))
  ∗ anyAt c (rb (slot 3 0))
  ∗ anyAt c (rb (slot 3 1))
  ∗ anyAt c (oo c))
/-- What it leaves. -/
def Post (c : Dev nD) : sProp 𝕄 := iprop(semVal (barC c) 0
  ∗ ow c (du c 19)
  ∗ own c xM fullShare (xv m ρ c)
  ∗ own c wM fullShare.right (wv m ρ c)
  ∗ own c (wc 0) fullShare.left (wcol m ρ 0 c)
  ∗ own c (wc 1) fullShare.left (wcol m ρ 1 c)
  ∗ own c (wc 2) fullShare.left (wcol m ρ 2 c)
  ∗ own c (wc 3) fullShare.left (wcol m ρ 3 c)
  ∗ own c (wb 0 0) fullShare.left (wcol m ρ 0 (origin 0 0 c))
  ∗ own c (wb 0 0) fullShare.right (wcol m ρ 0 (origin 0 0 c))
  ∗ own c (wb 0 1) fullShare (wcol m ρ 0 (origin 0 1 c))
  ∗ own c (wb 1 0) fullShare.left (wcol m ρ 1 (origin 1 0 c))
  ∗ own c (wb 1 0) fullShare.right (wcol m ρ 1 (origin 1 0 c))
  ∗ own c (wb 1 1) fullShare (wcol m ρ 1 (origin 1 1 c))
  ∗ own c (wb 2 0) fullShare.left (wcol m ρ 2 (origin 2 0 c))
  ∗ own c (wb 2 0) fullShare.right (wcol m ρ 2 (origin 2 0 c))
  ∗ own c (wb 2 1) fullShare (wcol m ρ 2 (origin 2 1 c))
  ∗ own c (wb 3 0) fullShare.left (wcol m ρ 3 (origin 3 0 c))
  ∗ own c (wb 3 0) fullShare.right (wcol m ρ 3 (origin 3 0 c))
  ∗ own c (wb 3 1) fullShare (wcol m ρ 3 (origin 3 1 c))
  ∗ R3 0 0 c
  ∗ R3 0 1 c
  ∗ R3 1 0 c
  ∗ R3 1 1 c
  ∗ R3 2 0 c
  ∗ R3 2 1 c
  ∗ R3 3 0 c
  ∗ R3 3 1 c
  ∗ O3 0 0 c
  ∗ O3 0 1 c
  ∗ O3 1 0 c
  ∗ O3 1 1 c
  ∗ O3 2 0 c
  ∗ O3 2 1 c
  ∗ O3 3 0 c
  ∗ O3 3 1 c
  ∗ ovPay m ρ 0 0 c
  ∗ ovPay m ρ 0 1 c
  ∗ ovPay m ρ 1 0 c
  ∗ ovPay m ρ 1 1 c
  ∗ ovPay m ρ 2 0 c
  ∗ ovPay m ρ 2 1 c
  ∗ ovPay m ρ 3 0 c
  ∗ ovPay m ρ 3 1 c
  ∗ anyAt c (rb (slot 0 0))
  ∗ anyAt c (rb (slot 0 1))
  ∗ anyAt c (rb (slot 1 0))
  ∗ anyAt c (rb (slot 1 1))
  ∗ anyAt c (rb (slot 2 0))
  ∗ anyAt c (rb (slot 2 1))
  ∗ anyAt c (rb (slot 3 0))
  ∗ anyAt c (rb (slot 3 1))
  ∗ own c (oo c) fullShare (k0_pay1 (xv m ρ c) (wv m ρ c)))

set_option maxRecDepth 65536 in
theorem body_run {Q : PUnit → sProp 𝕄} (c : Dev nD) :
    iprop(env m ρ ∗ Pre m ρ c ∗ (Post m ρ c -∗ Q ⟨⟩))
    ⊢ run c (cc0_body (F := F) xM (Memref.isWhole_whole _) wM (Memref.isWhole_whole _) oM (Memref.isWhole_whole _) bM (Memref.isWhole_whole _) rM (Memref.isWhole_whole _)
      cc0_scratch2 cc0_scratch3 cc0_scratch4 cc0_scratch5) Q := by
  simp only [cc0_body_eq_skeleton]; unfold cc0_body_skel
  unfold Pre
  iintro ⟨#He, ⟨HO, HBs, HGs, Hp0, Hp1, Hp2, HX, HW, HC0, HC1, HC2, HC3, HP00, HP01, HP10, HP11, HP20, HP21, HP30, HP31, HOO⟩, Hk⟩
  iapply (run_bind c _ _)
  iapply (part1 c)
  iintro %v2 %v13 %v25 %v28 %v29 %v34
  iapply (run_bind c _ _)
  iapply (part2 m ρ c v13 v25 v28 v29 v34)
  isplitr; · iexact He
  isplitl [HO]; · iexact HO
  isplitl [HBs]; · iexact HBs
  isplitl [HGs]; · iexact HGs
  isplitl [Hp0]; · iexact Hp0
  isplitl [Hp1]; · iexact Hp1
  isplitl [Hp2]; · iexact Hp2
  isplitl [HC0]; · iexact HC0
  iintro ⟨HO, Hz, HR00, HR01, HR10, HR11, HR20, HR21, HR30, HR31, HS00, HS01, HS10, HS11, HS20, HS21, HS30, HS31⟩ %u
  iapply (run_bind c _ _)
  iapply (part3 m ρ c _ _)
  isplitr; · iexact He
  isplitl [HO]; · iexact HO
  isplitl [HR10]; · iexact HR10
  isplitl [HC1]; · iexact HC1
  isplitl [HR20]; · iexact HR20
  isplitl [HC2]; · iexact HC2
  isplitl [HR30]; · iexact HR30
  isplitl [HC3]; · iexact HC3
  isplitl [HX]; · iexact HX
  isplitl [HW]; · iexact HW
  iintro ⟨HO, HR10, HR20, HR30, HX, HW⟩
  iapply (run_bind c _ _)
  iapply (part4 m ρ c _ _)
  isplitr; · iexact He
  isplitl [HOO]; · iexact HOO
  isplitl [HO]; · iexact HO
  isplitl [HR00]; · iexact HR00
  isplitl [HR01]; · iexact HR01
  iintro ⟨HOO, HO, HR00, HR01, HC0, HH0⟩ %c4
  iapply (run_bind c _ _)
  iapply (part5 m ρ c _ _)
  isplitr; · iexact He
  isplitl [HX]; · iexact HX
  isplitl [HH0]; · iexact HH0
  isplitl [HP00]; · iexact HP00
  iintro ⟨HX, HH0, HP00⟩ %u
  iapply (run_bind c _ _)
  iapply (part6 m ρ c _ _)
  isplitr; · iexact He
  isplitl [HO]; · iexact HO
  isplitl [HS00]; · iexact HS00
  isplitl [HP00]; · iexact HP00
  isplitl [HR20]; · iexact HR20
  isplitl [HR21]; · iexact HR21
  iintro ⟨HO, HS00, HR20, HR21, HC2, HH2⟩ %v
  obtain ⟨v166, c_m1⟩ := v
  iapply (run_bind c _ _)
  iapply (part7 m ρ c _ _ _)
  isplitr; · iexact He
  isplitl [HX]; · iexact HX
  isplitl [HH2]; · iexact HH2
  isplitl [HP20]; · iexact HP20
  isplitl [HO]; · iexact HO
  isplitl [HS20]; · iexact HS20
  iintro ⟨HX, HH2, HO, HS20⟩ %u
  iapply (run_bind c _ _)
  iapply (part8 m ρ c _ _)
  isplitr; · iexact He
  isplitl [HO]; · iexact HO
  isplitl [HR10]; · iexact HR10
  isplitl [HR11]; · iexact HR11
  iintro ⟨HO, HR10, HR11, HC1, HH1⟩ %v
  obtain ⟨v221, c4⟩ := v
  iapply (run_bind c _ _)
  iapply (part9 m ρ c _ _ _)
  isplitr; · iexact He
  isplitl [HX]; · iexact HX
  isplitl [HH1]; · iexact HH1
  isplitl [HP10]; · iexact HP10
  isplitl [HO]; · iexact HO
  isplitl [HS10]; · iexact HS10
  iintro ⟨HX, HH1, HO, HS10⟩ %u
  iapply (run_bind c _ _)
  iapply (part10 m ρ c _ _)
  isplitr; · iexact He
  isplitl [HO]; · iexact HO
  isplitl [HR30]; · iexact HR30
  isplitl [HR31]; · iexact HR31
  iintro ⟨HO, HR30, HR31, HC3, HH3⟩ %v
  obtain ⟨v275, c4, v276⟩ := v
  iapply (run_bind c _ _)
  iapply (part11 m ρ c _ _ _ _)
  isplitr; · iexact He
  isplitl [HX]; · iexact HX
  isplitl [HH3]; · iexact HH3
  isplitl [HP30]; · iexact HP30
  isplitl [HO]; · iexact HO
  isplitl [HS30]; · iexact HS30
  iintro ⟨HX, HH3, HO, HS30⟩ %u
  iapply (run_bind c _ _)
  iapply (part12 m ρ c _ _)
  isplitr; · iexact He
  isplitl [HO]; · iexact HO
  isplitl [HR01]; · iexact HR01
  isplitl [HX]; · iexact HX
  iintro ⟨HO, HR01, HX, HB0, HL0⟩ %v331
  iapply (run_bind c _ _)
  iapply (part13 m ρ c _ _)
  isplitr; · iexact He
  isplitl [HB0]; · iexact HB0
  isplitl [HP01]; · iexact HP01
  isplitl [HO]; · iexact HO
  isplitl [HS01]; · iexact HS01
  isplitl [HR21]; · iexact HR21
  iintro ⟨HB0, HO, HS01, HR21, HL2⟩ %u
  iapply (run_bind c _ _)
  iapply (part14 m ρ c _ _)
  isplitr; · iexact He
  isplitl [HO]; · iexact HO
  isplitl [HR21]; · iexact HR21
  isplitl [HX]; · iexact HX
  isplitl [HP21]; · iexact HP21
  iintro ⟨HO, HR21, HX, HP21, HB2⟩ %v377
  iapply (run_bind c _ _)
  iapply (part15 m ρ c _ _ _)
  isplitr; · iexact He
  isplitl [HO]; · iexact HO
  isplitl [HS21]; · iexact HS21
  isplitl [HP21]; · iexact HP21
  isplitl [HR11]; · iexact HR11
  iintro ⟨HO, HS21, HR11, HB1, HL1⟩ %v413
  iapply (run_bind c _ _)
  iapply (part16 m ρ c _ _)
  isplitr; · iexact He
  isplitl [HX]; · iexact HX
  isplitl [HB1]; · iexact HB1
  isplitl [HP11]; · iexact HP11
  isplitl [HO]; · iexact HO
  isplitl [HS11]; · iexact HS11
  iintro ⟨HX, HB1, HO, HS11⟩ %u
  iapply (run_bind c _ _)
  iapply (part17 m ρ c _ _)
  isplitr; · iexact He
  isplitl [HO]; · iexact HO
  isplitl [HR31]; · iexact HR31
  isplitl [HX]; · iexact HX
  iintro ⟨HO, HR31, HX, HB3, HL3⟩ %v469
  iapply (run_bind c _ _)
  iapply (part18 m ρ c _ _)
  isplitr; · iexact He
  isplitl [HB3]; · iexact HB3
  isplitl [HP31]; · iexact HP31
  isplitl [HO]; · iexact HO
  isplitl [HS31]; · iexact HS31
  iintro ⟨HB3, HO, HS31⟩ %v
  obtain ⟨v501, c1024⟩ := v
  iapply (run_bind c _ _)
  iapply (part19 m ρ c _ _ _)
  isplitr; · iexact He
  isplitl [HO]; · iexact HO
  isplitl [HS00]; · iexact HS00
  isplitl [HS01]; · iexact HS01
  iintro ⟨HO, HS00, HS01, HV00, HV01⟩ %v
  obtain ⟨v531, c4⟩ := v
  iapply (run_bind c _ _)
  iapply (part20 m ρ c _ _ _)
  isplitr; · iexact He
  isplitl [HO]; · iexact HO
  isplitl [HS10]; · iexact HS10
  iintro ⟨HO, HS10, HV10⟩ %v563
  iapply (run_bind c _ _)
  iapply (part21 m ρ c _ _)
  isplitr; · iexact He
  isplitl [HO]; · iexact HO
  isplitl [HS11]; · iexact HS11
  isplitl [HS20]; · iexact HS20
  iintro ⟨HO, HS11, HS20, HV11, HV20⟩ %v
  obtain ⟨v593, v594, c0⟩ := v
  iapply (run_bind c _ _)
  iapply (part22 m ρ c _ _ _ _)
  isplitr; · iexact He
  isplitl [HO]; · iexact HO
  isplitl [HS21]; · iexact HS21
  iintro ⟨HO, HS21, HV21⟩ %u
  iapply (run_bind c _ _)
  iapply (part23 m ρ c _)
  isplitr; · iexact He
  isplitl [HO]; · iexact HO
  isplitl [HS30]; · iexact HS30
  isplitl [HS31]; · iexact HS31
  isplitl [HS00]; · iexact HS00
  iintro ⟨HO, HS30, HS31, HS00, HP00, HV30, HV31⟩ %u
  iapply (run_bind c _ _)
  iapply (part24 m ρ c)
  isplitr; · iexact He
  isplitl [HO]; · iexact HO
  isplitl [HS20]; · iexact HS20
  isplitl [HS10]; · iexact HS10
  isplitl [HS30]; · iexact HS30
  isplitl [HS01]; · iexact HS01
  iintro ⟨HO, HS20, HS10, HS30, HS01, HP01, HP10, HP20, HP30⟩ %u
  simp only [Prog.lift, Prog.bind_op, Prog.bind_ret, Prog.pure_eq_ret, Prog.bind_assoc]
  iapply (res_wait_send m ρ 2 1 c _ rfl _ _ _ (du c 19) rfl) $$ [HO HS21]
  · isplitr; · iexact He
    isplitl [HO]; · iexact HO
    iexact HS21
  iintro ⟨HO, HS21, HP21⟩
  iapply (res_wait_send m ρ 1 1 c _ rfl _ _ _ (du c 19) rfl) $$ [HO HS11]
  · isplitr; · iexact He
    isplitl [HO]; · iexact HO
    iexact HS11
  iintro ⟨HO, HS11, HP11⟩
  iapply (res_wait_send m ρ 3 1 c _ rfl _ _ _ (du c 19) rfl) $$ [HO HS31]
  · isplitr; · iexact He
    isplitl [HO]; · iexact HO
    iexact HS31
  iintro ⟨HO, HS31, HP31⟩
  iapply (run_ret c)
  iapply Hk
  unfold Post
  isplitl [Hz]; · iexact Hz
  isplitl [HO]; · iexact HO
  isplitl [HX]; · iexact HX
  isplitl [HW]; · iexact HW
  isplitl [HC0]; · iexact HC0
  isplitl [HC1]; · iexact HC1
  isplitl [HC2]; · iexact HC2
  isplitl [HC3]; · iexact HC3
  isplitl [HL0]; · iexact HL0
  isplitl [HH0]; · iexact HH0
  isplitl [HB0]; · iexact HB0
  isplitl [HL1]; · iexact HL1
  isplitl [HH1]; · iexact HH1
  isplitl [HB1]; · iexact HB1
  isplitl [HL2]; · iexact HL2
  isplitl [HH2]; · iexact HH2
  isplitl [HB2]; · iexact HB2
  isplitl [HL3]; · iexact HL3
  isplitl [HH3]; · iexact HH3
  isplitl [HB3]; · iexact HB3
  isplitl [HR00]; · iexact HR00
  isplitl [HR01]; · iexact HR01
  isplitl [HR10]; · iexact HR10
  isplitl [HR11]; · iexact HR11
  isplitl [HR20]; · iexact HR20
  isplitl [HR21]; · iexact HR21
  isplitl [HR30]; · iexact HR30
  isplitl [HR31]; · iexact HR31
  isplitl [HS00]; · iexact HS00
  isplitl [HS01]; · iexact HS01
  isplitl [HS10]; · iexact HS10
  isplitl [HS11]; · iexact HS11
  isplitl [HS20]; · iexact HS20
  isplitl [HS21]; · iexact HS21
  isplitl [HS30]; · iexact HS30
  isplitl [HS31]; · iexact HS31
  isplitl [HV00]; · iexact HV00
  isplitl [HV01]; · iexact HV01
  isplitl [HV10]; · iexact HV10
  isplitl [HV11]; · iexact HV11
  isplitl [HV20]; · iexact HV20
  isplitl [HV21]; · iexact HV21
  isplitl [HV30]; · iexact HV30
  isplitl [HV31]; · iexact HV31
  isplitl [HP00]; · iexact HP00
  isplitl [HP01]; · iexact HP01
  isplitl [HP10]; · iexact HP10
  isplitl [HP11]; · iexact HP11
  isplitl [HP20]; · iexact HP20
  isplitl [HP21]; · iexact HP21
  isplitl [HP30]; · iexact HP30
  isplitl [HP31]; · iexact HP31
  iexact HOO

end Cert.RingProof

end
-- ==== Proof.Body.lean ====
/-
# The body obligation

The staged operands and the result are cut up, the kernel runs, and the parts are joined again. What the result's
window holds afterwards: the device's own rows, and eight of the twelve blocks of the others' rows. The other four blocks,
those of the third round, hold what they held.
-/
module

public import proofs.«01_k».proof.Proof.Split
public import proofs.«01_k».proof.Proof.Run
public import Idealize.ShloMosaic.Lib.Pipeline.DatRel

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores that are not used -/

/-- The third of each stream's three, in each of the four arrays. -/
def unS (i : Fin 16) : DmaSem sig := ⟨3 + (3 * i.val + 2), by show _ < 51; omega⟩
theorem unS_le (i : Fin 16) : 3 ≤ (unS i).val := by revert i; decide
theorem unS_unused (i : Fin 16) : used (unS i) = false := by revert i; decide

def Us (c : Dev nD) : sProp 𝕄 := bigSep Finset.univ fun i : Fin 16 => atPos ER (((c : Thread nD τ), .dma (unS i)) : GSem nD τ sig) 0 ∅ 0
def Uz (c : Dev nD) : sProp 𝕄 := bigSep Finset.univ fun i : Fin 16 => semVal (((c : Thread nD τ), .dma (unS i)) : GSem nD τ sig) 0

/-- They close at once: no round of theirs has a duty. -/
theorem close_unused (c : Dev nD) : iprop(env m ρ ∗ Us c) ⊢ (|={Set.univ}=> Uz c : sProp 𝕄) := by
  have h1 (i : Fin 16) : iprop(env m ρ ∗ atPos ER (((c : Thread nD τ), .dma (unS i)) : GSem nD τ sig) 0 ∅ 0)
      ⊢ (|={Set.univ}=> semVal (((c : Thread nD τ), .dma (unS i)) : GSem nD τ sig) 0 : sProp 𝕄) := by
    iintro ⟨#He, Hat⟩
    ihave Hb := (env_dma m ρ c (unS i) (unS_le i)) $$ He
    unfold known
    icases Hb with ⟨⟨%κ, #HI⟩, -⟩
    iapply (Rounds.cell_close ER (Rd m ρ) (Set.mem_univ κ) (fun h => h) (R := 0) (fun r _ => duties_unused m ρ c (unS i) (unS_unused i) r))
    isplitr; · iexact HI
    iexact Hat
  unfold Us Uz
  refine (?_ : _ ⊢ _).trans (bigSep_fupd _ _)
  exact (sep_mono_left (BI.bigSep_of_persistent Finset.univ (env m ρ))).trans (by
    rw [← bigSep_sep']; exact bigSep_mono fun i _ => h1 i)

/-! ## The data of the pipeline -/

/-- What the result's window of device `c` holds in the end. -/
def outOk (c : Dev nD) (X : S4096x512.Idx → Elt F .f32) : Prop :=
  (∀ j, X ((ooR c).emb j) = k0_pay1 (xv m ρ c) (wv m ρ c) j)
    ∧ ∀ st h j, X ((obR (owner st h c) st).emb j) = pv m ρ st h (owner st h c) j

/-- Ghost state at the start, without the standing knowledge. -/
def lin (c : Dev nD) : sProp 𝕄 := iprop(Bs c ∗ Gs c ∗ Us c)
def start (c : Dev nD) : sProp 𝕄 := iprop(env m ρ ∗ lin c)
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- Every counter of the kernel's at zero. -/
def zeros (c : Dev nD) : sProp 𝕄 := iprop(semVal (barC c) 0 ∗ Uz c
  ∗ R3 0 0 c ∗ R3 0 1 c ∗ R3 1 0 c ∗ R3 1 1 c ∗ R3 2 0 c ∗ R3 2 1 c ∗ R3 3 0 c ∗ R3 3 1 c
  ∗ O3 0 0 c ∗ O3 0 1 c ∗ O3 1 0 c ∗ O3 1 1 c ∗ O3 2 0 c ∗ O3 2 1 c ∗ O3 3 0 c ∗ O3 3 1 c)

def Φ₀ (c : Dev nD) : sProp 𝕄 := iprop(start m ρ c ∗ scr c)
def Φ₁ (c : Dev nD) : sProp 𝕄 := iprop(zeros c ∗ scr c)

abbrev dats (p : Fin 1) (c : Dev nD) : Dat τ (Elt F) Unit ℕ UU ℕ (cfgs p) c where
  A w := (s₀ m ρ).mem (((cfgs p).win w).arr.view.loc (c : Thread nD τ))
  after w _ := match p, w with
    | 0, 0 => xv m ρ c
    | 0, 1 => wv m ρ c
    | 0, 2 => fun _ => FloatOps.ofBits .f32 0
  Φ t := match t with
    | ⟨0, _⟩ => Φ₀ m ρ c
    | ⟨_ + 1, _⟩ => Φ₁ c
  q _ := fullShare
  owed t := match t with
    | ⟨0, _⟩ => owedL (dues c)
    | ⟨_ + 1, _⟩ => 0

/-- The result's window is held to `outOk`, the operands' exactly. -/
def fgt (w : Fin 3) : Bool := match w with | 2 => true | _ => false
def Rl (c : Dev nD) : (w : Fin cfg0.W) → Fin cfg0.N → ((cfg0.win w).block.Idx → Elt F (cfg0.win w).elt) → Prop := fun w => match w with
  | 0 => fun _ _ => True
  | 1 => fun _ _ => True
  | 2 => fun _ X => outOk m ρ c X

theorem before_x (c : Dev nD) (d) : (dats m ρ 0 c).before (0 : Fin 3) t0_0 d = xv m ρ c := by
  unfold Dat.before; rw [if_pos (fetch0_0 t0_0)]; rfl
theorem before_w (c : Dev nD) (d) : (dats m ρ 0 c).before (1 : Fin 3) t0_0 d = wv m ρ c := by
  unfold Dat.before; rw [if_pos (fetch0_1 t0_0)]; rfl

/-! ## Cutting up what the kernel is given -/

theorem any_b_eq (c : Dev nD) : (iprop(∃ f : Buf (Elt F) ((c : Thread nD τ).loc cc0_scratch0), ((c : Thread nD τ).loc cc0_scratch0) ↦{fullShare} f) : sProp 𝕄) = anyAt c bM := by
  have e : bM.view.set = Finset.univ := View.set_whole _
  unfold anyAt; rw [e]
theorem any_r_eq (c : Dev nD) : (iprop(∃ f : Buf (Elt F) ((c : Thread nD τ).loc cc0_scratch1), ((c : Thread nD τ).loc cc0_scratch1) ↦{fullShare} f) : sProp 𝕄) = anyAt c rM := by
  have e : rM.view.set = Finset.univ := View.set_whole _
  unfold anyAt; rw [e]

theorem barPay0_eq (c : Dev nD) : (barPay (F := F) 0 (sh 3 c) : sProp 𝕄)
    = iprop(anyAt c (wb 0 0) ∗ anyAt c (wb 0 1) ∗ anyAt c (wb 1 0) ∗ anyAt c (wb 1 1) ∗ anyAt c (ob (sh 3 c) 2) ∗ anyAt c (ob (sh 3 c) 3)) := by
  unfold barPay; rw [if_pos rfl]; unfold pay0; rw [sh_sh, show (1 + 3) % 4 = 0 from rfl, sh_0]
theorem barPay1_eq (c : Dev nD) : (barPay (F := F) 1 (sh 1 c) : sProp 𝕄)
    = iprop(anyAt c (wb 2 0) ∗ anyAt c (wb 2 1) ∗ anyAt c (wb 3 0) ∗ anyAt c (wb 3 1) ∗ anyAt c (ob (sh 1 c) 0) ∗ anyAt c (ob (sh 1 c) 1)) := by
  unfold barPay; rw [if_neg (by decide), if_pos rfl]; unfold pay1; rw [sh_sh, show (3 + 1) % 4 = 0 from rfl, sh_0]
theorem barPay2_eq (c : Dev nD) : (barPay (F := F) 2 (sh 2 c) : sProp 𝕄)
    = iprop(anyAt c (ob (sh 2 c) 0) ∗ anyAt c (ob (sh 2 c) 1) ∗ anyAt c (ob (sh 2 c) 2) ∗ anyAt c (ob (sh 2 c) 3)) := by
  unfold barPay; rw [if_neg (by decide), if_neg (by decide)]; unfold pay2; rw [sh_sh, show (2 + 2) % 4 = 0 from rfl, sh_0]

/-- What the kernel does not touch: four product slots, and the third round's four blocks. -/
def Rest (c : Dev nD) : sProp 𝕄 := iprop(anyAt c (rb 2) ∗ anyAt c (rb 5) ∗ anyAt c (rb 8) ∗ anyAt c (rb 11)
  ∗ anyAt c (ob (sh 1 c) 2) ∗ anyAt c (ob (sh 1 c) 3) ∗ anyAt c (ob (sh 3 c) 0) ∗ anyAt c (ob (sh 3 c) 1))

theorem pre_intro (c : Dev nD) :
    iprop(ow c (dues c) ∗ Bs c ∗ Gs c ∗ scr c ∗ own c xM fullShare (xv m ρ c) ∗ own c wM fullShare (wv m ρ c) ∗ anyAt c oM)
      ⊢ (iprop(Pre m ρ c ∗ Rest c) : sProp 𝕄) := by
  unfold Pre Rest scr
  rw [any_b_eq, any_r_eq, barPay0_eq, barPay1_eq, barPay2_eq]
  iintro ⟨HO, HB, HG, ⟨Hb, Hr⟩, Hx, Hw, Ho⟩
  ihave Hb := (b_split c) $$ Hb
  icases Hb with ⟨a00, a01, a10, a11, a20, a21, a30, a31⟩
  ihave Hr := (r_split c) $$ Hr
  icases Hr with ⟨r0, r1, r2, r3, r4, r5, r6, r7, r8, r9, r10, r11⟩
  ihave Ho := (o_split c) $$ Ho
  icases Ho with ⟨oo, p0, p1, p2, p3, q0, q1, q2, q3, s0, s1, s2, s3⟩
  ihave Hw := (owns_halves (c : Thread nD τ) wM fullShare (wv m ρ c)).1 $$ Hw
  icases Hw with ⟨HwL, HwR⟩
  ihave HwL := (w_split m ρ c fullShare.left) $$ HwL
  icases HwL with ⟨w0, w1, w2, w3⟩
  isplitr [r2 r5 r8 r11 p2 p3 s0 s1]
  · isplitl [HO]; · iexact HO
    isplitl [HB]; · iexact HB
    isplitl [HG]; · iexact HG
    isplitl [a00 a01 a10 a11 s2 s3]
    · isplitl [a00]; · iexact a00
      isplitl [a01]; · iexact a01
      isplitl [a10]; · iexact a10
      isplitl [a11]; · iexact a11
      isplitl [s2] <;> iassumption
    isplitl [a20 a21 a30 a31 p0 p1]
    · isplitl [a20]; · iexact a20
      isplitl [a21]; · iexact a21
      isplitl [a30]; · iexact a30
      isplitl [a31]; · iexact a31
      isplitl [p0] <;> iassumption
    isplitl [q0 q1 q2 q3]
    · isplitl [q0]; · iexact q0
      isplitl [q1]; · iexact q1
      isplitl [q2] <;> iassumption
    isplitl [Hx]; · iexact Hx
    isplitl [HwR]; · iexact HwR
    isplitl [w0]; · iexact w0
    isplitl [w1]; · iexact w1
    isplitl [w2]; · iexact w2
    isplitl [w3]; · iexact w3
    isplitl [r0]; · iexact r0
    isplitl [r1]; · iexact r1
    isplitl [r3]; · iexact r3
    isplitl [r4]; · iexact r4
    isplitl [r6]; · iexact r6
    isplitl [r7]; · iexact r7
    isplitl [r9]; · iexact r9
    isplitl [r10]; · iexact r10
    iexact oo
  isplitl [r2]; · iexact r2
  isplitl [r5]; · iexact r5
  isplitl [r8]; · iexact r8
  isplitl [r11]; · iexact r11
  isplitl [p2]; · iexact p2
  isplitl [p3]; · iexact p3
  isplitl [s0] <;> iassumption

/-! ## Joining what it leaves -/

theorem any_own (c : Dev nD) {s : Shape} (M : Memref sig .tc .vmem s .f32) : (anyAt c M : sProp 𝕄) ⊢ iprop(∃ X, own c M fullShare X) := by
  unfold anyAt; iintro ⟨%f, H⟩; iexists _; iapply (owns_intro (c : Thread nD τ) M fullShare f); iexact H

theorem wb_back (c : Dev nD) (st : Fin 4) (W : Vec F S4096x128 .f32) :
    (iprop(own c (wb st 0) fullShare.left W ∗ own c (wb st 0) fullShare.right W) : sProp 𝕄) ⊢ anyAt c (wb st 0) :=
  ((owns_halves (c : Thread nD τ) (wb st 0) fullShare W).2).trans (any_of_own c _ _)

/-- The blocks that arrive, by where they lie. -/
theorem ovPay_eq (c : Dev nD) (st : Fin 4) (h : Fin 2) (k : ℕ) (e : owner st h c = sh k c) : (ovPay m ρ st h c : sProp 𝕄)
    = own c (ob (sh k c) st) fullShare (pv m ρ st h (owner st h c)) := by
  unfold ovPay; rw [e]

/-- The result's window from its parts. -/
theorem out_back (c : Dev nD) :
    iprop(own c (oo c) fullShare (k0_pay1 (xv m ρ c) (wv m ρ c))
      ∗ ovPay m ρ 0 0 c ∗ ovPay m ρ 1 0 c ∗ anyAt c (ob (sh 1 c) 2) ∗ anyAt c (ob (sh 1 c) 3)
      ∗ ovPay m ρ 0 1 c ∗ ovPay m ρ 1 1 c ∗ ovPay m ρ 2 1 c ∗ ovPay m ρ 3 1 c
      ∗ anyAt c (ob (sh 3 c) 0) ∗ anyAt c (ob (sh 3 c) 1) ∗ ovPay m ρ 2 0 c ∗ ovPay m ρ 3 0 c)
      ⊢ (iprop(∃ X : S4096x512.Idx → Elt F .f32, ⌜outOk m ρ c X⌝ ∗ own c oM fullShare X) : sProp 𝕄) := by
  rw [ovPay_eq m ρ c 0 0 1 rfl, ovPay_eq m ρ c 1 0 1 rfl, ovPay_eq m ρ c 0 1 2 rfl, ovPay_eq m ρ c 1 1 2 rfl, ovPay_eq m ρ c 2 1 2 rfl, ovPay_eq m ρ c 3 1 2 rfl,
    ovPay_eq m ρ c 2 0 3 rfl, ovPay_eq m ρ c 3 0 3 rfl]
  iintro ⟨Hoo, p0, p1, p2, p3, q0, q1, q2, q3, s0, s1, s2, s3⟩
  ihave p2 := (any_own c (ob (sh 1 c) 2)) $$ p2
  ihave p3 := (any_own c (ob (sh 1 c) 3)) $$ p3
  ihave s0 := (any_own c (ob (sh 3 c) 0)) $$ s0
  ihave s1 := (any_own c (ob (sh 3 c) 1)) $$ s1
  icases p2 with ⟨%X2, p2⟩
  icases p3 with ⟨%X3, p3⟩
  icases s0 with ⟨%Y0, s0⟩
  icases s1 with ⟨%Y1, s1⟩
  ihave H := (o_join c (k0_pay1 (xv m ρ c) (wv m ρ c)) (fun p => match p with
    | (0, 0) => pv m ρ 0 0 (owner 0 0 c) | (0, 1) => pv m ρ 1 0 (owner 1 0 c) | (0, 2) => X2 | (0, 3) => X3
    | (1, st) => pv m ρ st 1 (owner st 1 c)
    | (2, 0) => Y0 | (2, 1) => Y1 | (2, 2) => pv m ρ 2 0 (owner 2 0 c) | (2, 3) => pv m ρ 3 0 (owner 3 0 c))) $$ [Hoo p0 p1 p2 p3 q0 q1 q2 q3 s0 s1 s2 s3]
  · isplitl [Hoo]; · iexact Hoo
    isplitl [p0]; · iexact p0
    isplitl [p1]; · iexact p1
    isplitl [p2]; · iexact p2
    isplitl [p3]; · iexact p3
    isplitl [q0]; · iexact q0
    isplitl [q1]; · iexact q1
    isplitl [q2]; · iexact q2
    isplitl [q3]; · iexact q3
    isplitl [s0]; · iexact s0
    isplitl [s1]; · iexact s1
    isplitl [s2] <;> iassumption
  icases H with ⟨%X, %hX, H⟩
  iexists X
  isplitr
  · ipureintro
    refine ⟨hX.1, fun st h j => ?_⟩
    fin_cases st <;> fin_cases h
    · exact hX.2 0 0 j
    · exact hX.2 1 0 j
    · exact hX.2 0 1 j
    · exact hX.2 1 1 j
    · exact hX.2 2 2 j
    · exact hX.2 1 2 j
    · exact hX.2 2 3 j
    · exact hX.2 1 3 j
  iexact H

theorem post_elim (c : Dev nD) :
    iprop(Post m ρ c ∗ Rest c ∗ Uz c)
      ⊢ (iprop(ow c (du c 19) ∗ zeros c ∗ scr c ∗ own c xM fullShare (xv m ρ c) ∗ own c wM fullShare (wv m ρ c)
          ∗ ∃ X : S4096x512.Idx → Elt F .f32, ⌜outOk m ρ c X⌝ ∗ own c oM fullShare X) : sProp 𝕄) := by
  unfold Post Rest scr zeros
  rw [any_b_eq, any_r_eq]
  iintro ⟨⟨Hz, HO, Hx, HwR, w0, w1, w2, w3, a00, b00, a01, a10, b10, a11, a20, b20, a21, a30, b30, a31,
    R00, R01, R10, R11, R20, R21, R30, R31, O00, O01, O10, O11, O20, O21, O30, O31,
    v00, v01, v10, v11, v20, v21, v30, v31, r0, r1, r3, r4, r6, r7, r9, r10, Hoo⟩, ⟨r2, r5, r8, r11, p2, p3, s0, s1⟩, HU⟩
  isplitl [HO]; · iexact HO
  isplitl [Hz HU R00 R01 R10 R11 R20 R21 R30 R31 O00 O01 O10 O11 O20 O21 O30 O31]
  · isplitl [Hz]; · iexact Hz
    isplitl [HU]; · iexact HU
    isplitl [R00]; · iexact R00
    isplitl [R01]; · iexact R01
    isplitl [R10]; · iexact R10
    isplitl [R11]; · iexact R11
    isplitl [R20]; · iexact R20
    isplitl [R21]; · iexact R21
    isplitl [R30]; · iexact R30
    isplitl [R31]; · iexact R31
    isplitl [O00]; · iexact O00
    isplitl [O01]; · iexact O01
    isplitl [O10]; · iexact O10
    isplitl [O11]; · iexact O11
    isplitl [O20]; · iexact O20
    isplitl [O21]; · iexact O21
    isplitl [O30]; · iexact O30
    iexact O31
  isplitl [a00 b00 a01 a10 b10 a11 a20 b20 a21 a30 b30 a31 r0 r1 r2 r3 r4 r5 r6 r7 r8 r9 r10 r11]
  · isplitl [a00 b00 a01 a10 b10 a11 a20 b20 a21 a30 b30 a31]
    · ihave h0 := (wb_back c 0 _) $$ [a00 b00]
      · isplitl [a00] <;> iassumption
      ihave h1 := (wb_back c 1 _) $$ [a10 b10]
      · isplitl [a10] <;> iassumption
      ihave h2 := (wb_back c 2 _) $$ [a20 b20]
      · isplitl [a20] <;> iassumption
      ihave h3 := (wb_back c 3 _) $$ [a30 b30]
      · isplitl [a30] <;> iassumption
      ihave g0 := (any_of_own c (wb 0 1) _) $$ a01
      ihave g1 := (any_of_own c (wb 1 1) _) $$ a11
      ihave g2 := (any_of_own c (wb 2 1) _) $$ a21
      ihave g3 := (any_of_own c (wb 3 1) _) $$ a31
      iapply (b_join c)
      isplitl [h0]; · iexact h0
      isplitl [g0]; · iexact g0
      isplitl [h1]; · iexact h1
      isplitl [g1]; · iexact g1
      isplitl [h2]; · iexact h2
      isplitl [g2]; · iexact g2
      isplitl [h3] <;> iassumption
    · iapply (r_join c)
      isplitl [r0]; · iexact r0
      isplitl [r1]; · iexact r1
      isplitl [r2]; · iexact r2
      isplitl [r3]; · iexact r3
      isplitl [r4]; · iexact r4
      isplitl [r5]; · iexact r5
      isplitl [r6]; · iexact r6
      isplitl [r7]; · iexact r7
      isplitl [r8]; · iexact r8
      isplitl [r9]; · iexact r9
      isplitl [r10]; · iexact r10
      iexact r11
  isplitl [Hx]; · iexact Hx
  isplitl [HwR w0 w1 w2 w3]
  · ihave HwL := (w_join m ρ c fullShare.left) $$ [w0 w1 w2 w3]
    · isplitl [w0]; · iexact w0
      isplitl [w1]; · iexact w1
      isplitl [w2] <;> iassumption
    iapply (owns_halves (c : Thread nD τ) wM fullShare (wv m ρ c)).2
    isplitl [HwL] <;> iassumption
  iapply (out_back m ρ c)
  isplitl [Hoo]; · iexact Hoo
  isplitl [v00]; · iexact v00
  isplitl [v10]; · iexact v10
  isplitl [p2]; · iexact p2
  isplitl [p3]; · iexact p3
  isplitl [v01]; · iexact v01
  isplitl [v11]; · iexact v11
  isplitl [v21]; · iexact v21
  isplitl [v31]; · iexact v31
  isplitl [s0]; · iexact s0
  isplitl [s1]; · iexact s1
  isplitl [v20] <;> iassumption

/-! ## The obligation -/

def bodyPost (c : Dev nD) : sProp 𝕄 :=
  iprop(Φ₁ c ∗ (dats m ρ 0 c).owesAt () (t0_0 : Fin cfg0.N).succ ∗ own c xM fullShare (xv m ρ c) ∗ own c wM fullShare (wv m ρ c)
    ∗ ∃ X : S4096x512.Idx → Elt F .f32, ⌜outOk m ρ c X⌝ ∗ own c oM fullShare X)

set_option maxRecDepth 8000 in
theorem sound (c : Dev nD) (Y : S4096x512.Idx → Elt F .f32) :
    iprop(Φ₀ m ρ c ∗ (dats m ρ 0 c).owesAt () (t0_0 : Fin cfg0.N).castSucc ∗ own c xM fullShare (xv m ρ c) ∗ own c wM fullShare (wv m ρ c) ∗ own c oM fullShare Y)
    ⊢ run c (cc0_body (F := F) xM (Memref.isWhole_whole _) wM (Memref.isWhole_whole _) oM (Memref.isWhole_whole _) bM (Memref.isWhole_whole _) rM (Memref.isWhole_whole _)
      cc0_scratch2 cc0_scratch3 cc0_scratch4 cc0_scratch5) (fun _ => bodyPost m ρ c) := by
  unfold Φ₀ start lin Dat.owesAt Pipeline.owesWithin
  iintro ⟨⟨⟨#He, HB, HG, HU⟩, Hs⟩, ⟨%W, -, HO⟩, Hx, Hw, Ho⟩
  imod (close_unused m ρ c) $$ [HU] with HU
  · isplitr; · iexact He
    iexact HU
  ihave Ho := (any_of_own c oM Y) $$ Ho
  ihave H := (pre_intro m ρ c) $$ [HO HB HG Hs Hx Hw Ho]
  · isplitl [HO]
    · unfold ow; iexists W; iexact HO
    isplitl [HB]; · iexact HB
    isplitl [HG]; · iexact HG
    isplitl [Hs]; · iexact Hs
    isplitl [Hx]; · iexact Hx
    isplitl [Hw] <;> iassumption
  icases H with ⟨Hpre, Hrest⟩
  iapply (body_run m ρ c)
  isplitr; · iexact He
  isplitl [Hpre]; · iexact Hpre
  iintro Hpost
  ihave H := (post_elim m ρ c) $$ [Hpost Hrest HU]
  · isplitl [Hpost]; · iexact Hpost
    isplitl [Hrest] <;> iassumption
  icases H with ⟨HO, Hz, Hs, Hx, Hw, Ho⟩
  unfold bodyPost Φ₁ Dat.owesAt Pipeline.owesWithin ow
  icases HO with ⟨%W', HO⟩
  isplitl [Hz Hs]; · isplitl [Hz] <;> iassumption
  isplitl [HO]
  · iexists W'
    isplitr; · ipureintro; exact fun _ _ => Or.inl trivial
    iexact HO
  isplitl [Hx]; · iexact Hx
  isplitl [Hw] <;> iassumption

set_option maxRecDepth 8000 in
theorem body_obligation (c : Dev nD) : Pipeline.BodyObligationRel (dats (F := F) m ρ 0 c) (defs₀ (F := F)) 𝒱₀ () Set.univ fgt (Rl m ρ c) := fun t => by
  rw [fin_N0 t, bigSep_W0, bigSep_W0]
  refine (?_ : _ ⊢ iprop(∃ Y : S4096x512.Idx → Elt F .f32, Φ₀ m ρ c ∗ (dats m ρ 0 c).owesAt () (t0_0 : Fin cfg0.N).castSucc ∗ own c xM fullShare (xv m ρ c) ∗ own c wM fullShare (wv m ρ c) ∗ own c oM fullShare Y)).trans
    ((exists_elim fun Y => sound m ρ c Y).trans (Entails.of_eq ?_))
  · show iprop(Φ₀ m ρ c ∗ (dats m ρ 0 c).owesAt () (t0_0 : Fin cfg0.N).castSucc
      ∗ (∃ d, own c xM fullShare ((dats m ρ 0 c).before (0 : Fin 3) t0_0 d)) ∗ (∃ d, own c wM fullShare ((dats m ρ 0 c).before (1 : Fin 3) t0_0 d))
      ∗ (∃ Y : S4096x512.Idx → Elt F .f32, ⌜((dats m ρ 0 c).toRRel fgt (Rl m ρ c)).Finds (2 : Fin 3) t0_0 Y⌝ ∗ own c oM fullShare Y)) ⊢ _
    iintro ⟨HΦ, HO, ⟨%d, Hx⟩, ⟨%d', Hw⟩, ⟨%Y, -, Ho⟩⟩
    iexists Y
    isplitl [HΦ]; · iexact HΦ
    isplitl [HO]; · iexact HO
    isplitl [Hx]; · ihave Hx := (Entails.of_eq (congrArg (own c xM fullShare) (before_x m ρ c d))) $$ Hx; iexact Hx
    isplitl [Hw]; · ihave Hw := (Entails.of_eq (congrArg (own c wM fullShare) (before_w m ρ c d'))) $$ Hw; iexact Hw
    iexact Ho
  · rfl

end Cert.RingProof

end
-- ==== Proof.Deal.lean ====
/-
# Dealing out the ghost state

The launch mints, for each device, the ghost state of its own forty-nine cells. A device keeps its positions; the tokens
of the duties at a cell go to the device that pays them: the barrier's three to the three other devices, a ring receive
cell's to the neighbour that sends on that stream, a result receive cell's to the owner of the rows.
-/
module

public import proofs.«01_k».proof.Proof.Body
public import Idealize.ShloMosaic.Lib.Pipeline.Launch
public import Idealize.ShloMosaic.Lib.Pipeline.Kit

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The forty-nine semaphores by what they are for -/

/-- A stream and a round. -/
abbrev SH : Type := Fin 4 × Fin 2
/-- Ring send, ring receive, result send, result receive; the sixteen unused; the barrier. -/
abbrev JO : Type := SH ⊕ SH ⊕ SH ⊕ SH ⊕ Fin 16
abbrev JK : Type := SH ⊕ SH ⊕ SH ⊕ SH ⊕ Fin 16 ⊕ Unit

def jk : JK → Fin 49
  | .inl p => ⟨3 * p.1.val + p.2.val, by omega⟩
  | .inr (.inl p) => ⟨12 + (3 * p.1.val + p.2.val), by omega⟩
  | .inr (.inr (.inl p)) => ⟨24 + (3 * p.1.val + p.2.val), by omega⟩
  | .inr (.inr (.inr (.inl p))) => ⟨36 + (3 * p.1.val + p.2.val), by omega⟩
  | .inr (.inr (.inr (.inr (.inl i)))) => ⟨3 * i.val + 2, by omega⟩
  | .inr (.inr (.inr (.inr (.inr _)))) => 48
def jo : JO → Fin 48
  | .inl p => ⟨3 * p.1.val + p.2.val, by omega⟩
  | .inr (.inl p) => ⟨12 + (3 * p.1.val + p.2.val), by omega⟩
  | .inr (.inr (.inl p)) => ⟨24 + (3 * p.1.val + p.2.val), by omega⟩
  | .inr (.inr (.inr (.inl p))) => ⟨36 + (3 * p.1.val + p.2.val), by omega⟩
  | .inr (.inr (.inr (.inr i))) => ⟨3 * i.val + 2, by omega⟩

theorem jk_bij : Function.Bijective jk := (Fintype.bijective_iff_injective_and_card jk).mpr ⟨by decide +kernel, by decide +kernel⟩
theorem jo_bij : Function.Bijective jo := (Fintype.bijective_iff_injective_and_card jo).mpr ⟨by decide +kernel, by decide +kernel⟩

/-- The kernel's own semaphores. -/
def osem (k : Fin 48) : SemLoc sig := .dma ⟨3 + k.val, by show _ < 51; omega⟩

theorem sep2 {A A' B B' : sProp 𝕄} (h : A = A') (h' : B = B') : iprop(A ∗ B) = iprop(A' ∗ B') := by rw [h, h']

theorem cells_eq (Ψ : SemLoc sig → sProp 𝕄) : (bigSep Finset.univ fun k : Fin 49 => Ψ (ksem k))
    = iprop((bigSep Finset.univ fun p : SH => Ψ (.dma (rsS p.1 p.2))) ∗ (bigSep Finset.univ fun p : SH => Ψ (.dma (rvS p.1 p.2)))
      ∗ (bigSep Finset.univ fun p : SH => Ψ (.dma (osS p.1 p.2))) ∗ (bigSep Finset.univ fun p : SH => Ψ (.dma (ovS p.1 p.2)))
      ∗ (bigSep Finset.univ fun i : Fin 16 => Ψ (.dma (unS i))) ∗ Ψ (.reg barS)) := by
  rw [bigSep_univ_equiv (Equiv.ofBijective jk jk_bij), bigSep_univ_sum, bigSep_univ_sum, bigSep_univ_sum, bigSep_univ_sum, bigSep_univ_sum,
    bigSep_univ_of_subsingleton ()]
  exact sep2 (bigSep_congr fun p _ => congrArg Ψ (by revert p; decide)) (sep2 (bigSep_congr fun p _ => congrArg Ψ (by revert p; decide)) (sep2 (bigSep_congr fun p _ => congrArg Ψ (by revert p; decide)) (sep2 (bigSep_congr fun p _ => congrArg Ψ (by revert p; decide)) (sep2 (bigSep_congr fun p _ => congrArg Ψ (by revert p; decide)) rfl))))

theorem own_eq (Ψ : SemLoc sig → sProp 𝕄) : (bigSep Finset.univ fun k : Fin 48 => Ψ (osem k))
    = iprop((bigSep Finset.univ fun p : SH => Ψ (.dma (rsS p.1 p.2))) ∗ (bigSep Finset.univ fun p : SH => Ψ (.dma (rvS p.1 p.2)))
      ∗ (bigSep Finset.univ fun p : SH => Ψ (.dma (osS p.1 p.2))) ∗ (bigSep Finset.univ fun p : SH => Ψ (.dma (ovS p.1 p.2)))
      ∗ (bigSep Finset.univ fun i : Fin 16 => Ψ (.dma (unS i)))) := by
  rw [bigSep_univ_equiv (Equiv.ofBijective jo jo_bij), bigSep_univ_sum, bigSep_univ_sum, bigSep_univ_sum, bigSep_univ_sum]
  exact sep2 (bigSep_congr fun p _ => congrArg Ψ (by revert p; decide)) (sep2 (bigSep_congr fun p _ => congrArg Ψ (by revert p; decide)) (sep2 (bigSep_congr fun p _ => congrArg Ψ (by revert p; decide)) (sep2 (bigSep_congr fun p _ => congrArg Ψ (by revert p; decide)) (bigSep_congr fun p _ => congrArg Ψ (by revert p; decide)))))

/-- Over streams and rounds, one by one. -/
theorem bigSep_SH (Φ : SH → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

/-! ## What the launch mints -/

theorem ownSemFacts : Pipeline.OwnSemFacts cfg0.spec osem := by decide +kernel

theorem ksem_injective : Function.Injective ksem := by decide +kernel
theorem kcell_injective : Function.Injective (kcell : Dev nD × Fin 49 → GSem nD τ sig) := by
  rintro ⟨c, k⟩ ⟨c', k'⟩ h
  have h1 : c = c' := congrArg (fun g : GSem nD τ sig => g.1.1) h
  have h2 : k = k' := ksem_injective (congrArg Prod.snd h)
  rw [h1, h2]
def ringCells : Finset (GSem nD τ sig) := Finset.univ.map ⟨kcell, kcell_injective⟩

/-- A token for each of three duties at each cell, whether or not the cell has that duty. -/
abbrev tokOf (x : (Dev nD × Fin 49) × Fin 3) : GSem nD τ sig × ℕ × Fin 3 := (kcell x.1, 0, x.2)
theorem tokOf_injective : Function.Injective (tokOf : (Dev nD × Fin 49) × Fin 3 → GSem nD τ sig × ℕ × Fin 3) := by
  rintro ⟨a, d⟩ ⟨a', d'⟩ h
  have h1 : a = a' := kcell_injective (congrArg Prod.fst h)
  have h2 : d = d' := congrArg (fun x : GSem nD τ sig × ℕ × Fin 3 => x.2.2) h
  rw [h1, h2]
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

def ats (c : Dev nD) : sProp 𝕄 := bigSep Finset.univ fun k : Fin 49 => atPos ER (kcell (c, k)) 0 ∅ 0
def toks (c : Dev nD) : sProp 𝕄 := bigSep Finset.univ fun k : Fin 49 => bigSep Finset.univ fun d : Fin 3 => dutyTok ER (kcell (c, k)) 0 d
/-- What the launch deals device `c`. -/
def G (c : Dev nD) : sProp 𝕄 :=
  iprop((bigSep Finset.univ fun k : Fin 49 => roundState ER (Rd m ρ) (kcell (c, k)) 0)
    ∗ (bigSep Finset.univ fun k : Fin 49 => reached ER (kcell (c, k)) 0) ∗ ats c ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 49 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats; simp only [bigSep_sep']
  isplitl [Hst]; · iexact Hst
  isplitl [Hr]; · iexact Hr
  isplitl [Hat]; · iexact Hat
  iexact Htok

/-! ## The counters at zero become invariants -/

theorem ownSems0_eq (c : Dev nD) : (Pipeline.ownSems0 (Ix := Unit) (Name := ℕ) (U := UU) (Lvl := ℕ) (Val := Elt F) (τ := τ) osem c : sProp 𝕄)
    = bigSep Finset.univ fun k : Fin 48 => semVal (((c : Thread nD τ), osem k) : GSem nD τ sig) 0 := rfl
theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 49 => semVal (kcell (c, k)) 0 : sProp 𝕄) := by
  rw [ownSems0_eq, unscopedSems0_eq, own_eq (fun s => semVal (((c : Thread nD τ), s) : GSem nD τ sig) 0), cells_eq (fun s => semVal (((c : Thread nD τ), s) : GSem nD τ sig) 0)]
  iintro ⟨⟨H0, H1, H2, H3, H4⟩, H5⟩
  isplitl [H0]; · iexact H0
  isplitl [H1]; · iexact H1
  isplitl [H2]; · iexact H2
  isplitl [H3]; · iexact H3
  isplitl [H4] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 49 => known m ρ (kcell (c, k))) ∗ ats c ∗ toks c) := by
  unfold G known
  rw [bigSep_sep']
  iintro ⟨Hos, Hus, Hst, Hr, Hat, Htok⟩
  ihave Hv := (sems0_eq (F := F) c) $$ [Hos Hus]
  · isplitl [Hos] <;> iassumption
  imod (show iprop((bigSep Finset.univ fun k : Fin 49 => semVal (kcell (c, k)) 0) ∗ bigSep Finset.univ fun k : Fin 49 => roundState ER (Rd m ρ) (kcell (c, k)) 0)
      ⊢ (|={Set.univ}=> bigSep Finset.univ fun k : Fin 49 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv Hr]; · isplitl [Hinv] <;> iassumption
  isplitl [Hat] <;> iassumption

/-! ## The tokens go where they are used -/

def ringE (st : Fin 4) : Dev nD ≃ Dev nD := Equiv.ofBijective (ringTo st) (by revert st; decide +kernel)
def origE (st : Fin 4) (h : Fin 2) : Dev nD ≃ Dev nD := Equiv.ofBijective (origin st h) (by revert st h; decide +kernel)
def shE (k : ℕ) (hb : Function.Bijective (sh k)) : Dev nD ≃ Dev nD := Equiv.ofBijective (sh k) hb

theorem route (e : SH → (Dev nD ≃ Dev nD)) (Φ : SH → Dev nD → sProp 𝕄) :
    (bigSep Finset.univ fun c => bigSep Finset.univ fun p => Φ p c) = bigSep Finset.univ fun c => bigSep Finset.univ fun p => Φ p (e p c) := by
  rw [bigSep_univ_comm, bigSep_congr fun p _ => bigSep_univ_equiv (e p) (Φ p), bigSep_univ_comm]

/-- The tokens device `c` uses: the duties it pays. -/
def payToks (c : Dev nD) : sProp 𝕄 :=
  iprop((bigSep Finset.univ fun p : SH => dutyTok ER (rsC p.1 p.2 c) 0 0) ∗ (bigSep Finset.univ fun p : SH => dutyTok ER (rvC p.1 p.2 (ringTo p.1 c)) 0 0)
    ∗ (bigSep Finset.univ fun p : SH => dutyTok ER (osC p.1 p.2 c) 0 0) ∗ (bigSep Finset.univ fun p : SH => dutyTok ER (ovC p.1 p.2 (origin p.1 p.2 c)) 0 0)
    ∗ dutyTok ER (barC (sh 3 c)) 0 0 ∗ dutyTok ER (barC (sh 1 c)) 0 1 ∗ dutyTok ER (barC (sh 2 c)) 0 2)

theorem toks_own (c : Dev nD) : (toks c : sProp 𝕄)
    ⊢ iprop((bigSep Finset.univ fun p : SH => dutyTok ER (rsC p.1 p.2 c) 0 0) ∗ (bigSep Finset.univ fun p : SH => dutyTok ER (rvC p.1 p.2 c) 0 0)
      ∗ (bigSep Finset.univ fun p : SH => dutyTok ER (osC p.1 p.2 c) 0 0) ∗ (bigSep Finset.univ fun p : SH => dutyTok ER (ovC p.1 p.2 c) 0 0)
      ∗ dutyTok ER (barC c) 0 0 ∗ dutyTok ER (barC c) 0 1 ∗ dutyTok ER (barC c) 0 2) := by
  have h0 (s : SemLoc sig) : (bigSep Finset.univ fun d : Fin 3 => (dutyTok ER (((c : Thread nD τ), s) : GSem nD τ sig) 0 d : sProp 𝕄))
      ⊢ dutyTok ER (((c : Thread nD τ), s) : GSem nD τ sig) 0 0 := bigSep_elim (Finset.mem_univ 0)
  unfold toks
  rw [cells_eq (fun s => bigSep Finset.univ fun d : Fin 3 => dutyTok ER (((c : Thread nD τ), s) : GSem nD τ sig) 0 d)]
  refine sep_mono (bigSep_mono fun p _ => h0 _) (sep_mono (bigSep_mono fun p _ => h0 _) (sep_mono (bigSep_mono fun p _ => h0 _) (sep_mono (bigSep_mono fun p _ => h0 _) ?_)))
  rw [bigSep_three]
  show (iprop((bigSep Finset.univ fun i : Fin 16 => bigSep Finset.univ fun d : Fin 3 => dutyTok ER (((c : Thread nD τ), .dma (unS i)) : GSem nD τ sig) 0 d)
    ∗ dutyTok ER (barC c) 0 0 ∗ dutyTok ER (barC c) 0 1 ∗ dutyTok ER (barC c) 0 2) : sProp 𝕄) ⊢ iprop(dutyTok ER (barC c) 0 0 ∗ dutyTok ER (barC c) 0 1 ∗ dutyTok ER (barC c) 0 2)
  iintro ⟨-, H⟩
  iexact H

theorem toks_around : (bigSep Finset.univ fun c : Dev nD => (toks c : sProp 𝕄)) ⊢ bigSep Finset.univ fun c : Dev nD => payToks c := by
  refine (bigSep_mono fun c _ => toks_own c).trans ?_
  refine Entails.of_eq (PROP := sProp 𝕄) ?_
  unfold payToks
  simp only [bigSep_sep']
  rw [route (fun p => ringE p.1) (fun p c => dutyTok ER (rvC p.1 p.2 c) 0 0), route (fun p => origE p.1 p.2) (fun p c => dutyTok ER (ovC p.1 p.2 c) 0 0),
    bigSep_univ_equiv (shE 3 (by decide +kernel)) (fun c : Dev nD => (dutyTok ER (barC c) 0 0 : sProp 𝕄)),
    bigSep_univ_equiv (shE 1 (by decide +kernel)) (fun c : Dev nD => (dutyTok ER (barC c) 0 1 : sProp 𝕄)),
    bigSep_univ_equiv (shE 2 (by decide +kernel)) (fun c : Dev nD => (dutyTok ER (barC c) 0 2 : sProp 𝕄))]
  rfl

def records : sProp 𝕄 := bigSep Finset.univ fun ck : Dev nD × Fin 49 => known m ρ (kcell ck)
instance records_persistent : BI.Persistent (records m ρ) := by unfold records; infer_instance

/-- What the global step makes of it. -/
def G' (c : Dev nD) : sProp 𝕄 := iprop(records m ρ ∗ ats c ∗ payToks c)

theorem regroup :
    (bigSep Finset.univ fun c : Dev nD => iprop((bigSep Finset.univ fun k : Fin 49 => known m ρ (kcell (c, k))) ∗ ats c ∗ toks c) : sProp 𝕄)
      ⊢ bigSep Finset.univ (G' m ρ) := by
  rw [bigSep_sep', bigSep_sep', ← bigSep_univ_prod (fun ck : Dev nD × Fin 49 => known m ρ (kcell ck))]
  iintro ⟨HI, Hat, Htok⟩
  ihave Htok := (toks_around (F := F)) $$ Htok
  unfold G'
  iapply (BI.bigSep_with_persistent (S := Finset.univ) (R := records m ρ) (Φ := fun c : Dev nD => iprop(ats c ∗ payToks c))
    fun c _ => Entails.refl _)
  isplitl [HI]; · unfold records; iexact HI
  rw [bigSep_sep']
  isplitl [Hat] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

/-- What a list of credits owes a cell. -/
theorem owedL_apply (l : List (GSem nD τ sig × ℕ)) (g : GSem nD τ sig) : owedL l g () = (l.map fun a => if g = a.1 then a.2 else 0).sum := by
  induction l with
  | nil => rfl
  | cons a l ih =>
    unfold owedL
    rw [Pi.add_apply, Finsupp.add_apply, tallyAt_apply, ih, List.map_cons, List.sum_cons, Nat.add_comm]
    simp only [and_true]

def O₀ (c : Dev nD) : CellTallies nD τ sig Unit := owedL (dues c)

theorem owed_rv (c : Dev nD) (st : Fin 4) (h : Fin 2) : ∑ d : Dev nD, O₀ d (rvC st h c) () = NR := by
  unfold O₀; simp only [owedL_apply]; revert c st h; decide +kernel
theorem owed_ov (c : Dev nD) (st : Fin 4) (h : Fin 2) : ∑ d : Dev nD, O₀ d (ovC st h c) () = NO := by
  unfold O₀; simp only [owedL_apply]; revert c st h; decide +kernel
theorem owed_bar (c : Dev nD) : ∑ d : Dev nD, O₀ d (barC c) () = 3 := by
  unfold O₀; simp only [owedL_apply]; revert c; decide +kernel

theorem launch_cell (g : GSem nD τ sig) (n : ℕ) (hn : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, hn]

/-- The cells that others credit. -/
def jc : SH ⊕ SH ⊕ Unit → SemLoc sig
  | .inl p => .dma (rvS p.1 p.2)
  | .inr (.inl p) => .dma (ovS p.1 p.2)
  | .inr (.inr _) => .reg barS
theorem jc_injective : Function.Injective jc := by decide +kernel

def creds (c : Dev nD) : sProp 𝕄 :=
  iprop((bigSep Finset.univ fun p : SH => cred (tallyAt (rvC p.1 p.2 c) () NR)) ∗ (bigSep Finset.univ fun p : SH => cred (tallyAt (ovC p.1 p.2 c) () NO))
    ∗ cred (tallyAt (barC c) () 3))
theorem creds_intro (c : Dev nD) : (Pipeline.launchCred O₀ c : sProp 𝕄) ⊢ creds c := by
  unfold Pipeline.launchCred creds
  refine (bigSep_subset (Finset.subset_univ (Finset.univ.map ⟨jc, jc_injective⟩))).trans ?_
  refine Entails.of_eq (PROP := sProp 𝕄) ?_
  rw [bigSep_map, bigSep_univ_sum, bigSep_univ_sum, bigSep_univ_of_subsingleton ()]
  congr 1
  · exact bigSep_congr fun p _ => congrArg cred (launch_cell _ _ (owed_rv c p.1 p.2))
  congr 1
  · exact bigSep_congr fun p _ => congrArg cred (launch_cell _ _ (owed_ov c p.1 p.2))
  · exact congrArg cred (launch_cell _ _ (owed_bar c))

/-! ## Put together -/

theorem Gs_intro (c : Dev nD) : iprop((bigSep Finset.univ fun p : SH => Rg p.1 p.2 c) ∗ bigSep Finset.univ fun p : SH => Og p.1 p.2 c) ⊢ (Gs c : sProp 𝕄) := by
  rw [bigSep_SH, bigSep_SH]
  unfold Gs
  iintro ⟨⟨a0, a1, a2, a3, a4, a5, a6, a7⟩, H⟩
  isplitl [a0]; · iexact a0
  isplitl [a1]; · iexact a1
  isplitl [a2]; · iexact a2
  isplitl [a3]; · iexact a3
  isplitl [a4]; · iexact a4
  isplitl [a5]; · iexact a5
  isplitl [a6]; · iexact a6
  isplitl [a7]; · iexact a7
  iexact H

theorem lin_intro (c : Dev nD) : iprop(ats c ∗ payToks c ∗ creds c) ⊢ (lin c : sProp 𝕄) := by
  unfold ats payToks creds lin Us
  rw [cells_eq (fun s => atPos ER (((c : Thread nD τ), s) : GSem nD τ sig) 0 ∅ 0)]
  iintro ⟨⟨A0, A1, A2, A3, A4, A5⟩, ⟨T0, T1, T2, T3, B0, B1, B2⟩, C1, C3, CB⟩
  isplitl [A5 CB B0 B1 B2]
  · unfold Bs
    isplitl [A5]; · iexact A5
    isplitl [CB]; · iexact CB
    isplitl [B0]; · iexact B0
    isplitl [B1] <;> iassumption
  isplitr [A4]
  · iapply (Gs_intro c)
    unfold Rg Og
    simp only [bigSep_sep']
    isplitl [A0 A1 T0 T1 C1]
    · isplitl [A0]; · iexact A0
      isplitl [A1]; · iexact A1
      isplitl [T0]; · iexact T0
      isplitl [T1] <;> iassumption
    · isplitl [A2]; · iexact A2
      isplitl [A3]; · iexact A3
      isplitl [T2]; · iexact T2
      isplitl [T3] <;> iassumption
  iexact A4

end Cert.RingProof

end
-- ==== Proof.Launch.lean ====
/-
# The run

From any memory with the counters at zero, every execution ends, with the counters at zero, the operands unchanged and the
result of each device as the body leaves it.
-/
module

public import proofs.«01_k».proof.Proof.Deal
public import Idealize.ShloMosaic.Lib.Pipeline.ArrRel
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

/-- The pipeline's data, the result's window held to `outOk`. -/
def rdats (p : Fin 1) (c : Dev nD) : Pipeline.RDat τ (Elt F) Unit ℕ UU ℕ (cfgs p) c := match p with
  | 0 => (dats m ρ 0 c).toRRel fgt (Rl m ρ c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start env records
  iintro ⟨-, Hlev, Hcr, -, HR, Hat, Ht⟩
  ihave Hc := (creds_intro (F := F) c) $$ Hcr
  imodintro
  isplitl
  · isplitl [HR Hlev]; · isplitl [HR] <;> iassumption
    iapply (lin_intro c)
    isplitl [Hat]; · iexact Hat
    isplitl [Ht] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (rdats m ρ 0 c).Φ 0 := by
  rw [show (rdats m ρ 0 c).Φ 0 = Φ₀ m ρ c from rfl, scopedRest0_eq]
  unfold Φ₀ scr
  iintro ⟨Hs, -, H⟩
  isplitl [Hs]; · iexact Hs
  iexact H

theorem zeros_elim (c : Dev nD) : (zeros c : sProp 𝕄)
    ⊢ iprop(unscopedSems0 c ∗ Pipeline.ownSems0 (Ix := Unit) (Name := ℕ) (U := UU) (Lvl := ℕ) (Val := Elt F) (τ := τ) osem c) := by
  have hR : (iprop(R3 0 0 c ∗ R3 0 1 c ∗ R3 1 0 c ∗ R3 1 1 c ∗ R3 2 0 c ∗ R3 2 1 c ∗ R3 3 0 c ∗ R3 3 1 c) : sProp 𝕄)
      = iprop((bigSep Finset.univ fun p : SH => semVal (rsC p.1 p.2 c) 0) ∗ bigSep Finset.univ fun p : SH => semVal (rvC p.1 p.2 c) 0) := by
    rw [← bigSep_sep', bigSep_SH]; rfl
  have hO : (iprop(O3 0 0 c ∗ O3 0 1 c ∗ O3 1 0 c ∗ O3 1 1 c ∗ O3 2 0 c ∗ O3 2 1 c ∗ O3 3 0 c ∗ O3 3 1 c) : sProp 𝕄)
      = iprop((bigSep Finset.univ fun p : SH => semVal (osC p.1 p.2 c) 0) ∗ bigSep Finset.univ fun p : SH => semVal (ovC p.1 p.2 c) 0) := by
    rw [← bigSep_sep', bigSep_SH]; rfl
  rw [ownSems0_eq, unscopedSems0_eq, own_eq (fun s => semVal (((c : Thread nD τ), s) : GSem nD τ sig) 0)]
  unfold zeros Uz
  rw [hO]
  iintro ⟨HB, HU, a0, a1, a2, a3, a4, a5, a6, a7, HO0, HO1⟩
  ihave H := (Entails.of_eq hR) $$ [a0 a1 a2 a3 a4 a5 a6 a7]
  · isplitl [a0]; · iexact a0
    isplitl [a1]; · iexact a1
    isplitl [a2]; · iexact a2
    isplitl [a3]; · iexact a3
    isplitl [a4]; · iexact a4
    isplitl [a5]; · iexact a5
    isplitl [a6] <;> iassumption
  icases H with ⟨HR0, HR1⟩
  isplitl [HB]; · iexact HB
  isplitl [HR0]; · iexact HR0
  isplitl [HR1]; · iexact HR1
  isplitl [HO0]; · iexact HO0
  isplitl [HO1] <;> iassumption

theorem phi1_exit (c : Dev nD) :
    (rdats m ρ 0 c).Φ (Fin.last cfg0.N) ⊢ iprop(unscopedSems0 c ∗ Pipeline.ownSems0 osem c ∗ Pipeline.scopedRest cfg0.spec c) := by
  rw [show (rdats m ρ 0 c).Φ (Fin.last cfg0.N) = Φ₁ c from rfl, scopedRest0_eq]
  unfold Φ₁ scr
  iintro ⟨Hz, Hs⟩
  ihave Hz := (zeros_elim c) $$ Hz
  icases Hz with ⟨HB, HO⟩
  isplitl [HB]; · iexact HB
  isplitl [HO]; · iexact HO
  iexact Hs

theorem dues_tc (c : Dev nD) (w : Fin 3) (s : Fin (spec0 w).nbuf) : waitOk (.dma ((spec0 w).sem s)) (dues c) = true := by
  revert c; fin_cases w <;> fin_cases s <;> decide +kernel

theorem owed_start (c : Dev nD) (ht : 0 < cfg0.N + 1) : (rdats m ρ 0 c).owed ⟨0, ht⟩ = owedL (dues c) := rfl

theorem owed_end (c : Dev nD) (k : ℕ) (ht : k + 1 < cfg0.N + 1) : (rdats m ρ 0 c).owed ⟨k + 1, ht⟩ = 0 := rfl

theorem waits (c : Dev nD) : (levAts L lv : sProp 𝕄) ⊢ Pipeline.RDat.cellsWaits cfgs (rdats m ρ) () 0 c :=
  Pipeline.RDat.cellsWaits_intro cfgs (rdats m ρ) () 0 c fun w s t => by
    rcases t with ⟨_ | _, ht⟩
    · have h := mayWait_of (F := F) c (.dma ((spec0 w).sem s)) (dues c) (waitOk_iff (dues_tc c w s))
      rw [owed_start]
      exact h
    · rw [owed_end, MayWait_zero]; iintro -; iempintro

/-- What the run leaves. -/
def QC (r : PUnit × MemSt nD τ sig (Elt F)) : Prop := ∀ c : Dev nD,
  outOk m ρ c (r.2.mem ((c : Thread nD τ).loc main_v1))
    ∧ r.2.mem ((c : Thread nD τ).loc main_arg0) = m ((c : Thread nD τ).loc main_arg0)
    ∧ r.2.mem ((c : Thread nD τ).loc main_arg1) = m ((c : Thread nD τ).loc main_arg1)

theorem read_out (c : Dev nD) (G : Buf (Elt F) ((c : Thread nD τ).loc main_v1)) (h : (rdats m ρ 0 c).ArrAt (2 : Fin 3) cfg0.N G) : outOk m ρ c G := by
  obtain ⟨X, hX, hG⟩ := h.emb_eq_of_wholeAt (t₀ := t0_0) (by decide +kernel)
  have hR : outOk m ρ c X := Dat.toRRel_leaves (dats m ρ 0 c) (fgt := fgt) (Rl := Rl m ρ c) (w := (2 : Fin 3)) rfl hX
  have e : G = X := funext fun j => hG j
  rw [e]; exact hR
theorem read_x (c : Dev nD) (G : Buf (Elt F) ((c : Thread nD τ).loc main_arg0)) (h : (rdats m ρ 0 c).ArrAt (0 : Fin 3) cfg0.N G) :
    G = m ((c : Thread nD τ).loc main_arg0) := by
  obtain ⟨X, hX, hA⟩ := h.exists_exact
  exact (hA (Function.update (fun _ _ _ => Classical.arbitrary _) (0 : Fin 3) X) fun u _ _ => by rw [Function.update_self]).trans (Dat.arrAt_in ((rdats m ρ 0 c).withAfter _) (0 : Fin 3) rfl cfg0.N)
theorem read_w (c : Dev nD) (G : Buf (Elt F) ((c : Thread nD τ).loc main_arg1)) (h : (rdats m ρ 0 c).ArrAt (1 : Fin 3) cfg0.N G) :
    G = m ((c : Thread nD τ).loc main_arg1) := by
  obtain ⟨X, hX, hA⟩ := h.exists_exact
  exact (hA (Function.update (fun _ _ _ => Classical.arbitrary _) (1 : Fin 3) X) fun u _ _ => by rw [Function.update_self]).trans (Dat.arrAt_in ((rdats m ρ 0 c).withAfter _) (1 : Fin 3) rfl cfg0.N)

set_option maxRecDepth 8000 in
/-- On four devices, for any float values, from any memory with the counters at zero: every weakly fair execution ends, the
    results hold what the body leaves there, the operands are unchanged, and every counter is at zero. -/
theorem run_main : θ_run defs (onTc (τ := τ) (main (F := F))) (s₀ m ρ) (fun r => QC m ρ r ∧ r.2.sem = fun _ => 0) :=
  Pipeline.RDat.θ_run_region_owing_glob_pf (fun p => (cfgs p).toPCfg) (fun p => (cfgs p).toPCfg_adm) (rdats m ρ) () cellOf_inj (0 : Fin 1)
    winFacts0.to₀ ownSemFacts (Pipeline.PreFacts.none _) EP defs₀ 𝒱₀ m ρ main
    (hmain := fun _ => rfl)
    (hbody := fun c => (body_obligation m ρ c).toRRel) (hne := fun w => by fin_cases w <;> exact Nat.succ_pos _) (harr := arr_whole0) (hstage := stage_whole0)
    (hshare := fun c w => by show (dats m ρ 0 c).share w = fullShare; unfold Dat.share; split <;> rfl)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨read_out m ρ c _ ((h c).1 (2 : Fin 3)), read_x m ρ c _ ((h c).1 (0 : Fin 3)), read_w m ρ c _ ((h c).1 (1 : Fin 3))⟩,
      sem_eq_zero hs fun c => (h c).2.2⟩)

end Cert.RingProof

end
-- ==== Proof.Mask.lean ====
/-
# Where the claim reads the result

The mask is printed as operations on words. At a row and a column it is a function of the row's block of 1024, the column's
block of 512 and the half of that block the column lies in. A column of the first half is read unless its row block lies three
further round the ring than its column block; one of the second half is read unless its row block lies one further.
-/
module

public import proofs.«01_k».proof.Proof.Gen.On_two_rounds

@[expose] public section

noncomputable section

namespace Cert.RingMask

open Cert.On_two_rounds Cert.On_two_rounds.Gen
open Idealize.ShloMosaic

/-- A word's sign, as a word. -/
def sgn (a : BitVec 32) : BitVec 32 := if a = 0 then 0 else if a.msb then -1 else 1
/-- The quotient of two words, rounded down, as the mask computes it. -/
def quo (a b : BitVec 32) : BitVec 32 :=
  Scalar.select (IntOp.cmpi .ne (sgn a) (sgn b) &&& IntOp.cmpi .ne (IntOp.remsi .host a b) 0#32) (IntOp.divsi .host a b - 1#32) (IntOp.divsi .host a b)
/-- The divisor the mask's remainder divides by. -/
def den (b : BitVec 32) : BitVec 32 := Scalar.select (IntOp.cmpi .eq b 0#32) 1#32 b
/-- The remainder of two words with the divisor's sign, as the mask computes it. -/
def rmd (a b : BitVec 32) : BitVec 32 :=
  Scalar.select (IntOp.cmpi .ne (IntOp.cmpi .slt (IntOp.remsi .host a (den b)) 0#32) (IntOp.cmpi .slt (den b) 0#32)
      &&& IntOp.cmpi .ne (IntOp.remsi .host a (den b)) 0#32)
    (IntOp.remsi .host a (den b) + den b) (IntOp.remsi .host a (den b))
/-- How far the row block is ahead of the column block, from the two blocks. -/
def aheadW (p q : BitVec 32) : BitVec 32 := rmd (p + 4#32 - q) 4#32
/-- The mask at a place, from how far ahead the place is and its column within the block. -/
def readW (a l : BitVec 32) : BitVec 1 := Scalar.select (IntOp.cmpi .slt l 256#32) (IntOp.cmpi .ne a 3#32) (IntOp.cmpi .ne a 1#32)

variable {F : FTy → Type} [FloatOps F]

theorem quo_at (x : IVec S4096x2048 32) (b : BitVec 32) (i : S4096x2048.Idx) : fn_floor_divide (F := F) x (constantI S_ 32 b) i = quo (x i) b := rfl
theorem rmd_at (x : IVec S4096x2048 32) (b : BitVec 32) (i : S4096x2048.Idx) : fn_remainder (F := F) x (constantI S_ 32 b) i = rmd (x i) b := rfl

/-- The mask at a row and a column. -/
theorem mask_at (x : FVec F S4096x4096 .f32) (w : FVec F S4096x2048 .f32) (i : S4096x2048.Idx) :
    fn x w i = readW (aheadW (quo (BitVec.ofNat 32 (i 0).val) 1024#32) (quo (BitVec.ofNat 32 (i 1).val) 512#32)) (rmd (BitVec.ofNat 32 (i 1).val) 512#32) := rfl

theorem quo_row : ∀ l < 4096, quo (BitVec.ofNat 32 l) 1024#32 = BitVec.ofNat 32 (l / 1024) := by decide +kernel
theorem quo_col : ∀ l < 2048, quo (BitVec.ofNat 32 l) 512#32 = BitVec.ofNat 32 (l / 512) := by decide +kernel
theorem rmd_col : ∀ l < 2048, rmd (BitVec.ofNat 32 l) 512#32 = BitVec.ofNat 32 (l % 512) := by decide +kernel
theorem first_half : ∀ l < 512, IntOp.cmpi .slt (BitVec.ofNat 32 l) 256#32 = if l < 256 then 1#1 else 0#1 := by decide +kernel

/-- Where the mask is set: in the first half of a column block the row block is not three ahead, in the second not one. -/
theorem blocks : ∀ p q : Fin 4, ∀ f : Bool,
    Scalar.select (if f then 1#1 else 0#1) (IntOp.cmpi .ne (aheadW (BitVec.ofNat 32 p.val) (BitVec.ofNat 32 q.val)) 3#32)
        (IntOp.cmpi .ne (aheadW (BitVec.ofNat 32 p.val) (BitVec.ofNat 32 q.val)) 1#32) = 1#1
      → (p.val + 4 - q.val) % 4 ≠ if f then 3 else 1 := by decide +kernel

/-- What the mask says of a row block `p`, a column block `q` and a column `l` within that block. -/
theorem mask_blocks (x : FVec F S4096x4096 .f32) (w : FVec F S4096x2048 .f32) (i : S4096x2048.Idx) (h : fn x w i = 1#1) (p q : Fin 4) (l : ℕ)
    (hp : (i 0).val / 1024 = p.val) (hq : (i 1).val / 512 = q.val) (hl : (i 1).val % 512 = l) :
    (p.val + 4 - q.val) % 4 ≠ if l < 256 then 3 else 1 := by
  have h0 : (i 0).val < 4096 := (i 0).isLt
  have h1 : (i 1).val < 2048 := (i 1).isLt
  rw [mask_at, quo_row _ h0, quo_col _ h1, rmd_col _ h1, hp, hq, hl] at h
  unfold readW at h
  rw [first_half l (by omega)] at h
  have := blocks p q (decide (l < 256))
  simp only [decide_eq_true_eq] at this
  exact this h

end Cert.RingMask

end
-- ==== Proof.Values.lean ====
/-
# The products as sums

At the exact values both programs' products are sums over the 4096 positions that a row and a column have in common, and both
take the positive part of the sum.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Pipeline.Value
public import Idealize.ShloMosaic.Lib.Pipeline.ValueKit.Geometry

@[expose] public section

noncomputable section

namespace Cert.RingProof

open Cert.KernelIdeal Cert.KernelIdeal.Gen
open Idealize.ShloMosaic Idealize.ShloMosaic.TcCoe Idealize.ShloMosaic.ValueIdx

/-- The constant zero both programs compare with. -/
abbrev zero : Ideal .f32 := Ideal.ofBits .f32 0x00000000#32

theorem zero_eq : zero = 0 := by
  unfold zero; simp

/-- The product of 1024 rows with `n` columns, at a row and a column. -/
theorem prod_at (x : Vec Ideal S1024x4096 .f32) (w : Vec Ideal S4096x128 .f32) (a : Fin 1024) (b : Fin 128) :
    prod x w (ix2 a b) = max (∑ k : Fin 4096, x (ix2 a k) * w (ix2 k b)) zero := by
  unfold prod
  rw [maximumf_apply, shapeCast_self]
  refine congrArg₂ max ?_ rfl
  refine (Ideal.matmul_plain_apply none x w _ a b).trans ?_
  exact (congrArg (· + _) zero_eq).trans (zero_add _)

theorem own_at (x : Vec Ideal S1024x4096 .f32) (w : Vec Ideal S4096x512 .f32) (a : Fin 1024) (b : Fin 512) :
    k0_pay1 x w (ix2 a b) = max (∑ k : Fin 4096, x (ix2 a k) * w (ix2 k b)) zero := by
  unfold k0_pay1
  rw [maximumf_apply, shapeCast_self, shapeCast_self]
  refine congrArg₂ max ?_ rfl
  refine (Ideal.matmul_plain_apply none x w _ a b).trans ?_
  exact (congrArg (· + _) zero_eq).trans (zero_add _)

/-- The reference's result. -/
def whole (X : FVec Ideal ⟨2, ![4096, 4096]⟩ .f32) (W : FVec Ideal ⟨2, ![4096, 2048]⟩ .f32) : FVec Ideal ⟨2, ![4096, 2048]⟩ .f32 :=
  maximumf (Host.dotGeneral Cert.ReferenceIdeal.dot_S4096x4096_S4096x2048_S4096x2048_1_0_0_1_n_n none X W)
    (broadcastInDim Cert.ReferenceIdeal.S4096x2048 ![] Cert.ReferenceIdeal.Gen.bcast_S_S4096x2048 (constant Cert.ReferenceIdeal.S_ .f32 0x00000000#32))

/-- The reference's result at a row and a column. -/
theorem whole_at (X : FVec Ideal ⟨2, ![4096, 4096]⟩ .f32) (W : FVec Ideal ⟨2, ![4096, 2048]⟩ .f32) (a : Fin 4096) (b : Fin 2048) :
    whole X W (ix2 a b) = max (∑ k : Fin 4096, X (ix2 a k) * W (ix2 k b)) zero := by
  unfold whole
  rw [maximumf_apply]
  exact congrArg₂ max (StackMember.dotGeneral_plain_apply none X W a b) rfl

/-! ## The operands' blocks -/

variable (m : (ℓ : Loc nD τ sig) → Buf (Elt Ideal) ℓ) (ρ : Dev nD → PrngReg)

theorem xv_eq (c : Dev nD) : xv m ρ c = m ((c.tc : Thread nD τ).loc main_arg0) := by
  funext j
  unfold xv
  refine congrArg (m ((c.tc : Thread nD τ).loc main_arg0)) (funext fun a => Fin.ext ?_)
  show ((win0_0.rect (0 : Fin 1)).emb j a).val = (j a).val
  rw [Rect.emb_apply]
  show 0 * S1024x4096.size a + 1 * (j a).val = (j a).val
  omega
theorem wv_eq (c : Dev nD) : wv m ρ c = m ((c.tc : Thread nD τ).loc main_arg1) := by
  funext j
  unfold wv
  refine congrArg (m ((c.tc : Thread nD τ).loc main_arg1)) (funext fun a => Fin.ext ?_)
  show ((win0_1.rect (0 : Fin 1)).emb j a).val = (j a).val
  rw [Rect.emb_apply]
  show 0 * S4096x512.size a + 1 * (j a).val = (j a).val
  omega

/-- Rows of device `p` against columns of device `c`: the reference's result there, from the two blocks. -/
theorem whole_blocks (X : FVec Ideal ⟨2, ![4096, 4096]⟩ .f32) (W : FVec Ideal ⟨2, ![4096, 2048]⟩ .f32)
    (hx : ∀ c, xv m ρ c = Layout.block ⟨2, ![1024, 4096]⟩ ⟨2, ![4096, 4096]⟩ 0 4 c X)
    (hw : ∀ c, wv m ρ c = Layout.block ⟨2, ![4096, 512]⟩ ⟨2, ![4096, 2048]⟩ 1 4 c W)
    (p c : Dev nD) (a : Fin 1024) (l : Fin 512) (j : (⟨2, ![4096, 2048]⟩ : Shape).Idx)
    (h0 : (j 0).val = 1024 * p.val + a.val) (h1 : (j 1).val = 512 * c.val + l.val) :
    whole X W j = max (∑ k : Fin 4096, xv m ρ p (ix2 a k) * wv m ρ c (ix2 k l)) zero := by
  rw [hx, hw]
  refine (congrArg (whole X W) (eq_ix2 j)).trans ((whole_at X W (j 0) (j 1)).trans ?_)
  refine congrArg (max · zero) (Finset.sum_congr rfl fun k _ => congrArg₂ (· * ·) (congrArg X ?_) (congrArg W ?_))
  · funext b
    apply Fin.ext
    match b with
    | ⟨0, _⟩ => exact h0.trans (by show _ = p.val * 1024 + a.val; omega)
    | ⟨1, _⟩ => rfl
  · funext b
    apply Fin.ext
    match b with
    | ⟨0, _⟩ => rfl
    | ⟨1, _⟩ => exact h1.trans (by show _ = c.val * 512 + l.val; omega)

/-- A row block the mask keeps is the own one or arrives in one of the two rounds. -/
theorem round_of : ∀ (c p : Dev nD) (st : Fin 4), p ≠ c → (p.val + 4 - c.val) % 4 ≠ (if st.val < 2 then 3 else 1) → ∃ h, owner st h c = p := by decide

/-- A result that the body leaves agrees with the reference wherever the mask is set. -/
theorem result_at (X : FVec Ideal ⟨2, ![4096, 4096]⟩ .f32) (W : FVec Ideal ⟨2, ![4096, 2048]⟩ .f32)
    (hx : ∀ c, xv m ρ c = Layout.block ⟨2, ![1024, 4096]⟩ ⟨2, ![4096, 4096]⟩ 0 4 c X)
    (hw : ∀ c, wv m ρ c = Layout.block ⟨2, ![4096, 512]⟩ ⟨2, ![4096, 2048]⟩ 1 4 c W)
    (c : Dev nD) (G : S4096x512.Idx → Elt Ideal .f32) (hG : outOk m ρ c G) (i : S4096x512.Idx) (p : Dev nD) (hp : (i 0).val / 1024 = p.val)
    (hm : (p.val + 4 - c.val) % 4 ≠ if (i 1).val < 256 then 3 else 1) (j : (⟨2, ![4096, 2048]⟩ : Shape).Idx)
    (h0 : (j 0).val = (i 0).val) (h1 : (j 1).val = 512 * c.val + (i 1).val) : G i = whole X W j := by
  have hi0 : (i 0).val < 4096 := (i 0).isLt
  have hi1 : (i 1).val < 512 := (i 1).isLt
  have ha : (i 0).val % 1024 < 1024 := Nat.mod_lt _ (by decide)
  by_cases hpc : p = c
  · subst hpc
    have e : i = (ooR p).emb (ix2 ⟨(i 0).val % 1024, ha⟩ ⟨(i 1).val, hi1⟩) := by
      funext b
      apply Fin.ext
      match b with
      | ⟨0, _⟩ => rw [ValueKit.rect_emb_unit_val]; show (i 0).val = 1024 * p.val + (i 0).val % 1024; omega
      | ⟨1, _⟩ => rw [ValueKit.rect_emb_unit_val]; exact (Nat.zero_add _).symm
    rw [whole_blocks m ρ X W hx hw p p ⟨(i 0).val % 1024, ha⟩ ⟨(i 1).val, hi1⟩ j (by rw [h0]; show (i 0).val = 1024 * p.val + (i 0).val % 1024; omega) h1]
    refine (congrArg G e).trans ((hG.1 _).trans ?_)
    exact own_at _ _ _ _
  · have hst : (i 1).val / 128 < 4 := by omega
    have hb : (i 1).val % 128 < 128 := Nat.mod_lt _ (by decide)
    obtain ⟨h, hh⟩ := round_of c p ⟨(i 1).val / 128, hst⟩ hpc (by
      have : ((i 1).val / 128 < 2) = ((i 1).val < 256) := propext (by omega)
      show _ ≠ if (i 1).val / 128 < 2 then 3 else 1
      simpa only [this] using hm)
    have e : i = (obR p ⟨(i 1).val / 128, hst⟩).emb (ix2 ⟨(i 0).val % 1024, ha⟩ ⟨(i 1).val % 128, hb⟩) := by
      funext b
      apply Fin.ext
      match b with
      | ⟨0, _⟩ => rw [ValueKit.rect_emb_unit_val]; show (i 0).val = 1024 * p.val + (i 0).val % 1024; omega
      | ⟨1, _⟩ => rw [ValueKit.rect_emb_unit_val]; show (i 1).val = 128 * ((i 1).val / 128) + (i 1).val % 128; omega
    rw [whole_blocks m ρ X W hx hw p c ⟨(i 0).val % 1024, ha⟩ ⟨(i 1).val, hi1⟩ j (by rw [h0]; show (i 0).val = 1024 * p.val + (i 0).val % 1024; omega) h1]
    have hO := hG.2 ⟨(i 1).val / 128, hst⟩ h
    rw [hh] at hO
    refine (congrArg G e).trans ((hO _).trans ?_)
    unfold pv
    rw [← hh, origin_owner]
    refine (prod_at _ _ _ _).trans (congrArg (max · zero) (Finset.sum_congr rfl fun k _ => congrArg₂ (· * ·) (by rw [hh]) ?_))
    unfold wcol
    refine congrArg (wv m ρ c) ?_
    funext b
    apply Fin.ext
    match b with
    | ⟨0, _⟩ => rw [ValueKit.rect_emb_unit_val]; exact Nat.zero_add _
    | ⟨1, _⟩ => rw [ValueKit.rect_emb_unit_val]; show 128 * ((i 1).val / 128) + (i 1).val % 128 = (i 1).val; omega

end Cert.RingProof

end
-- ==== Proof.lean ====
/-
# The certificate

Two rounds of the ring, on four devices. Every execution of the printed kernel ends with its operands unchanged and its
counters at zero, at machine words and at exact values; so does the reference. At exact values the kernel's result is the
reference's wherever the mask of the claim is set.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_two_rounds
public import proofs.«01_k».proof.Proof.Launch
public import proofs.«01_k».proof.Proof.Mask
public import proofs.«01_k».proof.Proof.Values
public import Idealize.ShloMosaic.Adequacy
public import Idealize.ShloMosaic.Init

@[expose] public section

noncomputable section

namespace Cert.Proof

open Idealize.ShloMosaic Idealize.SL.Sem Cert.RingProof

/-- The kernel and its reading at exact values print the same body, so that they have the same table of bodies. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl
theorem table_eq : @Cert.Kernel.defs Bits _ _ = @Cert.KernelIdeal.defs Bits _ _ := by
  unfold Cert.Kernel.defs Cert.KernelIdeal.defs
  exact congrArg _ bodies_eq

/-- The kernel on machine words ends quietly. -/
theorem frame_kernel : Cert.quiescent_Kernel := fun m ρ _ => by
  rw [table_eq]
  exact (θ_run Cert.KernelIdeal.defs _ _).mono (fun _ h => ⟨fun c => ⟨(h.1 c).2.1, (h.1 c).2.2⟩, h.2⟩) (run_main (F := Bits) m ρ)

/-- So does the kernel on exact values, -/
theorem frame_kernelIdeal : Cert.quiescent_KernelIdeal := fun m ρ _ =>
  (θ_run Cert.KernelIdeal.defs _ _).mono (fun _ h => ⟨fun c => ⟨(h.1 c).2.1, (h.1 c).2.2⟩, h.2⟩) (run_main (F := Ideal) m ρ)

/-- and the reference. -/
theorem frame_referenceIdeal : Cert.quiescent_ReferenceIdeal := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- Where the mask is set, each device's result is its block of the reference's. -/
theorem algebraic : Cert.algebraic_KernelIdeal_ReferenceIdeal_on_two_rounds := fun m ρ m' ρ' _ hin => by
  have hx : ∀ c, xv m ρ c = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0)) :=
    fun c => (xv_eq m ρ c).trans (hin c).1
  have hw : ∀ c, wv m ρ c = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1)) :=
    fun c => (wv_eq m ρ c).trans (hin c).2
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨fun i hi => ?_, (h.1 c).2.1, (h.1 c).2.2⟩) (run_main (F := Ideal) m ρ)
    have hT : Layout.Tiles ⟨2, ![4096, 512]⟩ ⟨2, ![4096, 2048]⟩ 1 4 := by decide
    have hi0 : (i 0).val < 4096 := (i 0).isLt
    have hi1 : (i 1).val < 512 := (i 1).isLt
    have e1 : (hT.idx c i 1).val = c.val * 512 + (i 1).val := rfl
    refine result_at m ρ _ _ hx hw c _ (h.1 c).1 i ⟨(i 0).val / 1024, by show (i 0).val / 1024 < 4; omega⟩ rfl ?_ (hT.idx c i) rfl (by rw [e1, Nat.mul_comm])
    exact Cert.RingMask.mask_blocks _ _ (hT.idx c i) hi ⟨(i 0).val / 1024, by omega⟩ c (i 1).val rfl (by rw [e1]; omega) (by rw [e1]; omega)
  · exact (θ_run Cert.ReferenceIdeal.defs _ _).mono (fun r h => ⟨fun i _ => congrFun (h 0).1 i, (h 0).2.1, (h 0).2.2⟩)
      (Cert.ReferenceIdeal.Value.run (F := Ideal) m' ρ')

theorem claim : Cert.Claim := ⟨Cert.Kernel.Gen.facts, Cert.KernelIdeal.Gen.facts, Cert.ReferenceIdeal.Gen.facts, Cert.On_two_rounds.Gen.facts,
  frame_kernel, frame_kernelIdeal, frame_referenceIdeal, trivial, algebraic⟩

end Cert.Proof

end
